-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_CtxBack (m : (ℓ : Loc Cert.CtxBack.nD Cert.CtxBack.τ Cert.CtxBack.sig) → Buf (Elt Bits) ℓ) : Prop :=
  True

def Pre_CtxBackIdeal (m : (ℓ : Loc Cert.CtxBackIdeal.nD Cert.CtxBackIdeal.τ Cert.CtxBackIdeal.sig) → Buf (Elt Ideal) ℓ) : Prop :=
  True

def Pre_CtxBackRefIdeal (m : (ℓ : Loc Cert.CtxBackRefIdeal.nD Cert.CtxBackRefIdeal.τ Cert.CtxBackRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_DftA (m : (ℓ : Loc Cert.DftA.nD Cert.DftA.τ Cert.DftA.sig) → Buf (Elt Bits) ℓ) : Prop :=
  True

def Pre_DftAIdeal (m : (ℓ : Loc Cert.DftAIdeal.nD Cert.DftAIdeal.τ Cert.DftAIdeal.sig) → Buf (Elt Ideal) ℓ) : Prop :=
  True

def Pre_DftARefIdeal (m : (ℓ : Loc Cert.DftARefIdeal.nD Cert.DftARefIdeal.τ Cert.DftARefIdeal.sig) → Buf (Elt Ideal) ℓ) : Prop :=
  True

def Pre_DftB (m : (ℓ : Loc Cert.DftB.nD Cert.DftB.τ Cert.DftB.sig) → Buf (Elt Bits) ℓ) : Prop :=
  True

def Pre_DftBIdeal (m : (ℓ : Loc Cert.DftBIdeal.nD Cert.DftBIdeal.τ Cert.DftBIdeal.sig) → Buf (Elt Ideal) ℓ) : Prop :=
  True

def Pre_DftBRefIdeal (m : (ℓ : Loc Cert.DftBRefIdeal.nD Cert.DftBRefIdeal.τ Cert.DftBRefIdeal.sig) → Buf (Elt Ideal) ℓ) : Prop :=
  True

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldIdeal_finite [hPre_finite : Cert.Pre_finite.Facts] (m : (ℓ : Loc Cert.FoldIdeal.nD Cert.FoldIdeal.τ Cert.FoldIdeal.sig) → Buf (Elt Ideal) ℓ) : Prop :=
  ∀ c : Dev Cert.FoldIdeal.nD,
    (Cert.Pre_finite.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1)) (m ((c.tc : Thread Cert.FoldIdeal.nD Cert.FoldIdeal.τ).loc Cert.FoldIdeal.main_arg2))).1 = (fun _ => 1#1)
    ∧ (Cert.Pre_finite.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1)) (m ((c.tc : Thread Cert.FoldIdeal.nD Cert.FoldIdeal.τ).loc Cert.FoldIdeal.main_arg2))).2.1 = (fun _ => 1#1)
    ∧ (Cert.Pre_finite.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1)) (m ((c.tc : Thread Cert.FoldIdeal.nD Cert.FoldIdeal.τ).loc Cert.FoldIdeal.main_arg2))).2.2 = (fun _ => 1#1)

def Pre_FoldRefIdeal (m : (ℓ : Loc Cert.FoldRefIdeal.nD Cert.FoldRefIdeal.τ Cert.FoldRefIdeal.sig) → Buf (Elt Ideal) ℓ) : Prop :=
  True

def Pre_FoldRefIdeal_finite [hPre_finite : Cert.Pre_finite.Facts] (m : (ℓ : Loc Cert.FoldRefIdeal.nD Cert.FoldRefIdeal.τ Cert.FoldRefIdeal.sig) → Buf (Elt Ideal) ℓ) : Prop :=
  ∀ c : Dev Cert.FoldRefIdeal.nD,
    (Cert.Pre_finite.fn (F := Ideal) (m ((c.tc : Thread Cert.FoldRefIdeal.nD Cert.FoldRefIdeal.τ).loc Cert.FoldRefIdeal.main_arg0)) (m ((c.tc : Thread Cert.FoldRefIdeal.nD Cert.FoldRefIdeal.τ).loc Cert.FoldRefIdeal.main_arg1)) (m ((c.tc : Thread Cert.FoldRefIdeal.nD Cert.FoldRefIdeal.τ).loc Cert.FoldRefIdeal.main_arg2))).1 = (fun _ => 1#1)
    ∧ (Cert.Pre_finite.fn (F := Ideal) (m ((c.tc : Thread Cert.FoldRefIdeal.nD Cert.FoldRefIdeal.τ).loc Cert.FoldRefIdeal.main_arg0)) (m ((c.tc : Thread Cert.FoldRefIdeal.nD Cert.FoldRefIdeal.τ).loc Cert.FoldRefIdeal.main_arg1)) (m ((c.tc : Thread Cert.FoldRefIdeal.nD Cert.FoldRefIdeal.τ).loc Cert.FoldRefIdeal.main_arg2))).2.1 = (fun _ => 1#1)
    ∧ (Cert.Pre_finite.fn (F := Ideal) (m ((c.tc : Thread Cert.FoldRefIdeal.nD Cert.FoldRefIdeal.τ).loc Cert.FoldRefIdeal.main_arg0)) (m ((c.tc : Thread Cert.FoldRefIdeal.nD Cert.FoldRefIdeal.τ).loc Cert.FoldRefIdeal.main_arg1)) (m ((c.tc : Thread Cert.FoldRefIdeal.nD Cert.FoldRefIdeal.τ).loc Cert.FoldRefIdeal.main_arg2))).2.2 = (fun _ => 1#1)

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_CtxBack [hCtxBack : Cert.CtxBack.Facts] : Prop :=
  ∀ (m : (ℓ : Loc Cert.CtxBack.nD Cert.CtxBack.τ Cert.CtxBack.sig) → Buf (Elt Bits) ℓ) (g : Dev Cert.CtxBack.nD → PrngReg), Pre_CtxBack m →
    θ_run (Cert.CtxBack.defs (F := Bits)) (onTc (τ := Cert.CtxBack.τ) (Cert.CtxBack.main (F := Bits))) ⟨m, fun _ => 0, g⟩ (fun r => (∀ c : Dev Cert.CtxBack.nD,
      r.2.mem ((c.tc : Thread Cert.CtxBack.nD Cert.CtxBack.τ).loc Cert.CtxBack.main_arg0) = m ((c.tc : Thread Cert.CtxBack.nD Cert.CtxBack.τ).loc Cert.CtxBack.main_arg0)
      ∧ r.2.mem ((c.tc : Thread Cert.CtxBack.nD Cert.CtxBack.τ).loc Cert.CtxBack.main_arg1) = m ((c.tc : Thread Cert.CtxBack.nD Cert.CtxBack.τ).loc Cert.CtxBack.main_arg1)
      ∧ r.2.mem ((c.tc : Thread Cert.CtxBack.nD Cert.CtxBack.τ).loc Cert.CtxBack.main_arg2) = m ((c.tc : Thread Cert.CtxBack.nD Cert.CtxBack.τ).loc Cert.CtxBack.main_arg2)
      ∧ r.2.mem ((c.tc : Thread Cert.CtxBack.nD Cert.CtxBack.τ).loc Cert.CtxBack.main_arg3) = m ((c.tc : Thread Cert.CtxBack.nD Cert.CtxBack.τ).loc Cert.CtxBack.main_arg3))
      ∧ r.2.sem = fun _ => 0)

def quiescent_CtxBackIdeal [hCtxBackIdeal : Cert.CtxBackIdeal.Facts] : Prop :=
  ∀ (m : (ℓ : Loc Cert.CtxBackIdeal.nD Cert.CtxBackIdeal.τ Cert.CtxBackIdeal.sig) → Buf (Elt Ideal) ℓ) (g : Dev Cert.CtxBackIdeal.nD → PrngReg), Pre_CtxBackIdeal m →
    θ_run (Cert.CtxBackIdeal.defs (F := Ideal)) (onTc (τ := Cert.CtxBackIdeal.τ) (Cert.CtxBackIdeal.main (F := Ideal))) ⟨m, fun _ => 0, g⟩ (fun r => (∀ c : Dev Cert.CtxBackIdeal.nD,
      r.2.mem ((c.tc : Thread Cert.CtxBackIdeal.nD Cert.CtxBackIdeal.τ).loc Cert.CtxBackIdeal.main_arg0) = m ((c.tc : Thread Cert.CtxBackIdeal.nD Cert.CtxBackIdeal.τ).loc Cert.CtxBackIdeal.main_arg0)
      ∧ r.2.mem ((c.tc : Thread Cert.CtxBackIdeal.nD Cert.CtxBackIdeal.τ).loc Cert.CtxBackIdeal.main_arg1) = m ((c.tc : Thread Cert.CtxBackIdeal.nD Cert.CtxBackIdeal.τ).loc Cert.CtxBackIdeal.main_arg1)
      ∧ r.2.mem ((c.tc : Thread Cert.CtxBackIdeal.nD Cert.CtxBackIdeal.τ).loc Cert.CtxBackIdeal.main_arg2) = m ((c.tc : Thread Cert.CtxBackIdeal.nD Cert.CtxBackIdeal.τ).loc Cert.CtxBackIdeal.main_arg2)
      ∧ r.2.mem ((c.tc : Thread Cert.CtxBackIdeal.nD Cert.CtxBackIdeal.τ).loc Cert.CtxBackIdeal.main_arg3) = m ((c.tc : Thread Cert.CtxBackIdeal.nD Cert.CtxBackIdeal.τ).loc Cert.CtxBackIdeal.main_arg3))
      ∧ r.2.sem = fun _ => 0)

def quiescent_CtxBackRefIdeal [hCtxBackRefIdeal : Cert.CtxBackRefIdeal.Facts] : Prop :=
  ∀ (m : (ℓ : Loc Cert.CtxBackRefIdeal.nD Cert.CtxBackRefIdeal.τ Cert.CtxBackRefIdeal.sig) → Buf (Elt Ideal) ℓ) (g : Dev Cert.CtxBackRefIdeal.nD → PrngReg), Pre_CtxBackRefIdeal m →
    θ_run (Cert.CtxBackRefIdeal.defs (F := Ideal)) (onTc (τ := Cert.CtxBackRefIdeal.τ) (Cert.CtxBackRefIdeal.main (F := Ideal))) ⟨m, fun _ => 0, g⟩ (fun r => (∀ c : Dev Cert.CtxBackRefIdeal.nD,
      r.2.mem ((c.tc : Thread Cert.CtxBackRefIdeal.nD Cert.CtxBackRefIdeal.τ).loc Cert.CtxBackRefIdeal.main_arg0) = m ((c.tc : Thread Cert.CtxBackRefIdeal.nD Cert.CtxBackRefIdeal.τ).loc Cert.CtxBackRefIdeal.main_arg0)
      ∧ r.2.mem ((c.tc : Thread Cert.CtxBackRefIdeal.nD Cert.CtxBackRefIdeal.τ).loc Cert.CtxBackRefIdeal.main_arg1) = m ((c.tc : Thread Cert.CtxBackRefIdeal.nD Cert.CtxBackRefIdeal.τ).loc Cert.CtxBackRefIdeal.main_arg1)
      ∧ r.2.mem ((c.tc : Thread Cert.CtxBackRefIdeal.nD Cert.CtxBackRefIdeal.τ).loc Cert.CtxBackRefIdeal.main_arg2) = m ((c.tc : Thread Cert.CtxBackRefIdeal.nD Cert.CtxBackRefIdeal.τ).loc Cert.CtxBackRefIdeal.main_arg2)
      ∧ r.2.mem ((c.tc : Thread Cert.CtxBackRefIdeal.nD Cert.CtxBackRefIdeal.τ).loc Cert.CtxBackRefIdeal.main_arg3) = m ((c.tc : Thread Cert.CtxBackRefIdeal.nD Cert.CtxBackRefIdeal.τ).loc Cert.CtxBackRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_DftA [hDftA : Cert.DftA.Facts] : Prop :=
  ∀ (m : (ℓ : Loc Cert.DftA.nD Cert.DftA.τ Cert.DftA.sig) → Buf (Elt Bits) ℓ) (g : Dev Cert.DftA.nD → PrngReg), Pre_DftA m →
    θ_run (Cert.DftA.defs (F := Bits)) (onTc (τ := Cert.DftA.τ) (Cert.DftA.main (F := Bits))) ⟨m, fun _ => 0, g⟩ (fun r => (∀ c : Dev Cert.DftA.nD,
      r.2.mem ((c.tc : Thread Cert.DftA.nD Cert.DftA.τ).loc Cert.DftA.main_arg0) = m ((c.tc : Thread Cert.DftA.nD Cert.DftA.τ).loc Cert.DftA.main_arg0)
      ∧ r.2.mem ((c.tc : Thread Cert.DftA.nD Cert.DftA.τ).loc Cert.DftA.main_arg1) = m ((c.tc : Thread Cert.DftA.nD Cert.DftA.τ).loc Cert.DftA.main_arg1)
      ∧ r.2.mem ((c.tc : Thread Cert.DftA.nD Cert.DftA.τ).loc Cert.DftA.main_arg2) = m ((c.tc : Thread Cert.DftA.nD Cert.DftA.τ).loc Cert.DftA.main_arg2))
      ∧ r.2.sem = fun _ => 0)

def quiescent_DftAIdeal [hDftAIdeal : Cert.DftAIdeal.Facts] : Prop :=
  ∀ (m : (ℓ : Loc Cert.DftAIdeal.nD Cert.DftAIdeal.τ Cert.DftAIdeal.sig) → Buf (Elt Ideal) ℓ) (g : Dev Cert.DftAIdeal.nD → PrngReg), Pre_DftAIdeal m →
    θ_run (Cert.DftAIdeal.defs (F := Ideal)) (onTc (τ := Cert.DftAIdeal.τ) (Cert.DftAIdeal.main (F := Ideal))) ⟨m, fun _ => 0, g⟩ (fun r => (∀ c : Dev Cert.DftAIdeal.nD,
      r.2.mem ((c.tc : Thread Cert.DftAIdeal.nD Cert.DftAIdeal.τ).loc Cert.DftAIdeal.main_arg0) = m ((c.tc : Thread Cert.DftAIdeal.nD Cert.DftAIdeal.τ).loc Cert.DftAIdeal.main_arg0)
      ∧ r.2.mem ((c.tc : Thread Cert.DftAIdeal.nD Cert.DftAIdeal.τ).loc Cert.DftAIdeal.main_arg1) = m ((c.tc : Thread Cert.DftAIdeal.nD Cert.DftAIdeal.τ).loc Cert.DftAIdeal.main_arg1)
      ∧ r.2.mem ((c.tc : Thread Cert.DftAIdeal.nD Cert.DftAIdeal.τ).loc Cert.DftAIdeal.main_arg2) = m ((c.tc : Thread Cert.DftAIdeal.nD Cert.DftAIdeal.τ).loc Cert.DftAIdeal.main_arg2))
      ∧ r.2.sem = fun _ => 0)

def quiescent_DftARefIdeal [hDftARefIdeal : Cert.DftARefIdeal.Facts] : Prop :=
  ∀ (m : (ℓ : Loc Cert.DftARefIdeal.nD Cert.DftARefIdeal.τ Cert.DftARefIdeal.sig) → Buf (Elt Ideal) ℓ) (g : Dev Cert.DftARefIdeal.nD → PrngReg), Pre_DftARefIdeal m →
    θ_run (Cert.DftARefIdeal.defs (F := Ideal)) (onTc (τ := Cert.DftARefIdeal.τ) (Cert.DftARefIdeal.main (F := Ideal))) ⟨m, fun _ => 0, g⟩ (fun r => (∀ c : Dev Cert.DftARefIdeal.nD,
      r.2.mem ((c.tc : Thread Cert.DftARefIdeal.nD Cert.DftARefIdeal.τ).loc Cert.DftARefIdeal.main_arg0) = m ((c.tc : Thread Cert.DftARefIdeal.nD Cert.DftARefIdeal.τ).loc Cert.DftARefIdeal.main_arg0)
      ∧ r.2.mem ((c.tc : Thread Cert.DftARefIdeal.nD Cert.DftARefIdeal.τ).loc Cert.DftARefIdeal.main_arg1) = m ((c.tc : Thread Cert.DftARefIdeal.nD Cert.DftARefIdeal.τ).loc Cert.DftARefIdeal.main_arg1)
      ∧ r.2.mem ((c.tc : Thread Cert.DftARefIdeal.nD Cert.DftARefIdeal.τ).loc Cert.DftARefIdeal.main_arg2) = m ((c.tc : Thread Cert.DftARefIdeal.nD Cert.DftARefIdeal.τ).loc Cert.DftARefIdeal.main_arg2))
      ∧ r.2.sem = fun _ => 0)

def quiescent_DftB [hDftB : Cert.DftB.Facts] : Prop :=
  ∀ (m : (ℓ : Loc Cert.DftB.nD Cert.DftB.τ Cert.DftB.sig) → Buf (Elt Bits) ℓ) (g : Dev Cert.DftB.nD → PrngReg), Pre_DftB m →
    θ_run (Cert.DftB.defs (F := Bits)) (onTc (τ := Cert.DftB.τ) (Cert.DftB.main (F := Bits))) ⟨m, fun _ => 0, g⟩ (fun r => (∀ c : Dev Cert.DftB.nD,
      r.2.mem ((c.tc : Thread Cert.DftB.nD Cert.DftB.τ).loc Cert.DftB.main_arg0) = m ((c.tc : Thread Cert.DftB.nD Cert.DftB.τ).loc Cert.DftB.main_arg0)
      ∧ r.2.mem ((c.tc : Thread Cert.DftB.nD Cert.DftB.τ).loc Cert.DftB.main_arg1) = m ((c.tc : Thread Cert.DftB.nD Cert.DftB.τ).loc Cert.DftB.main_arg1)
      ∧ r.2.mem ((c.tc : Thread Cert.DftB.nD Cert.DftB.τ).loc Cert.DftB.main_arg2) = m ((c.tc : Thread Cert.DftB.nD Cert.DftB.τ).loc Cert.DftB.main_arg2))
      ∧ r.2.sem = fun _ => 0)

def quiescent_DftBIdeal [hDftBIdeal : Cert.DftBIdeal.Facts] : Prop :=
  ∀ (m : (ℓ : Loc Cert.DftBIdeal.nD Cert.DftBIdeal.τ Cert.DftBIdeal.sig) → Buf (Elt Ideal) ℓ) (g : Dev Cert.DftBIdeal.nD → PrngReg), Pre_DftBIdeal m →
    θ_run (Cert.DftBIdeal.defs (F := Ideal)) (onTc (τ := Cert.DftBIdeal.τ) (Cert.DftBIdeal.main (F := Ideal))) ⟨m, fun _ => 0, g⟩ (fun r => (∀ c : Dev Cert.DftBIdeal.nD,
      r.2.mem ((c.tc : Thread Cert.DftBIdeal.nD Cert.DftBIdeal.τ).loc Cert.DftBIdeal.main_arg0) = m ((c.tc : Thread Cert.DftBIdeal.nD Cert.DftBIdeal.τ).loc Cert.DftBIdeal.main_arg0)
      ∧ r.2.mem ((c.tc : Thread Cert.DftBIdeal.nD Cert.DftBIdeal.τ).loc Cert.DftBIdeal.main_arg1) = m ((c.tc : Thread Cert.DftBIdeal.nD Cert.DftBIdeal.τ).loc Cert.DftBIdeal.main_arg1)
      ∧ r.2.mem ((c.tc : Thread Cert.DftBIdeal.nD Cert.DftBIdeal.τ).loc Cert.DftBIdeal.main_arg2) = m ((c.tc : Thread Cert.DftBIdeal.nD Cert.DftBIdeal.τ).loc Cert.DftBIdeal.main_arg2))
      ∧ r.2.sem = fun _ => 0)

def quiescent_DftBRefIdeal [hDftBRefIdeal : Cert.DftBRefIdeal.Facts] : Prop :=
  ∀ (m : (ℓ : Loc Cert.DftBRefIdeal.nD Cert.DftBRefIdeal.τ Cert.DftBRefIdeal.sig) → Buf (Elt Ideal) ℓ) (g : Dev Cert.DftBRefIdeal.nD → PrngReg), Pre_DftBRefIdeal m →
    θ_run (Cert.DftBRefIdeal.defs (F := Ideal)) (onTc (τ := Cert.DftBRefIdeal.τ) (Cert.DftBRefIdeal.main (F := Ideal))) ⟨m, fun _ => 0, g⟩ (fun r => (∀ c : Dev Cert.DftBRefIdeal.nD,
      r.2.mem ((c.tc : Thread Cert.DftBRefIdeal.nD Cert.DftBRefIdeal.τ).loc Cert.DftBRefIdeal.main_arg0) = m ((c.tc : Thread Cert.DftBRefIdeal.nD Cert.DftBRefIdeal.τ).loc Cert.DftBRefIdeal.main_arg0)
      ∧ r.2.mem ((c.tc : Thread Cert.DftBRefIdeal.nD Cert.DftBRefIdeal.τ).loc Cert.DftBRefIdeal.main_arg1) = m ((c.tc : Thread Cert.DftBRefIdeal.nD Cert.DftBRefIdeal.τ).loc Cert.DftBRefIdeal.main_arg1)
      ∧ r.2.mem ((c.tc : Thread Cert.DftBRefIdeal.nD Cert.DftBRefIdeal.τ).loc Cert.DftBRefIdeal.main_arg2) = m ((c.tc : Thread Cert.DftBRefIdeal.nD Cert.DftBRefIdeal.τ).loc Cert.DftBRefIdeal.main_arg2))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1)
      ∧ r.2.mem ((c.tc : Thread Cert.Fold.nD Cert.Fold.τ).loc Cert.Fold.main_arg2) = m ((c.tc : Thread Cert.Fold.nD Cert.Fold.τ).loc Cert.Fold.main_arg2))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ r.2.sem = fun _ => 0)

def quiescent_FoldIdeal_pre_finite [hFoldIdeal : Cert.FoldIdeal.Facts] [hPre_finite : Cert.Pre_finite.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal_finite m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ r.2.sem = fun _ => 0)

def quiescent_FoldRefIdeal [hFoldRefIdeal : Cert.FoldRefIdeal.Facts] : Prop :=
  ∀ (m : (ℓ : Loc Cert.FoldRefIdeal.nD Cert.FoldRefIdeal.τ Cert.FoldRefIdeal.sig) → Buf (Elt Ideal) ℓ) (g : Dev Cert.FoldRefIdeal.nD → PrngReg), Pre_FoldRefIdeal m →
    θ_run (Cert.FoldRefIdeal.defs (F := Ideal)) (onTc (τ := Cert.FoldRefIdeal.τ) (Cert.FoldRefIdeal.main (F := Ideal))) ⟨m, fun _ => 0, g⟩ (fun r => (∀ c : Dev Cert.FoldRefIdeal.nD,
      r.2.mem ((c.tc : Thread Cert.FoldRefIdeal.nD Cert.FoldRefIdeal.τ).loc Cert.FoldRefIdeal.main_arg0) = m ((c.tc : Thread Cert.FoldRefIdeal.nD Cert.FoldRefIdeal.τ).loc Cert.FoldRefIdeal.main_arg0)
      ∧ r.2.mem ((c.tc : Thread Cert.FoldRefIdeal.nD Cert.FoldRefIdeal.τ).loc Cert.FoldRefIdeal.main_arg1) = m ((c.tc : Thread Cert.FoldRefIdeal.nD Cert.FoldRefIdeal.τ).loc Cert.FoldRefIdeal.main_arg1)
      ∧ r.2.mem ((c.tc : Thread Cert.FoldRefIdeal.nD Cert.FoldRefIdeal.τ).loc Cert.FoldRefIdeal.main_arg2) = m ((c.tc : Thread Cert.FoldRefIdeal.nD Cert.FoldRefIdeal.τ).loc Cert.FoldRefIdeal.main_arg2))
      ∧ r.2.sem = fun _ => 0)

def quiescent_FoldRefIdeal_pre_finite [hFoldRefIdeal : Cert.FoldRefIdeal.Facts] [hPre_finite : Cert.Pre_finite.Facts] : Prop :=
  ∀ (m : (ℓ : Loc Cert.FoldRefIdeal.nD Cert.FoldRefIdeal.τ Cert.FoldRefIdeal.sig) → Buf (Elt Ideal) ℓ) (g : Dev Cert.FoldRefIdeal.nD → PrngReg), Pre_FoldRefIdeal_finite m →
    θ_run (Cert.FoldRefIdeal.defs (F := Ideal)) (onTc (τ := Cert.FoldRefIdeal.τ) (Cert.FoldRefIdeal.main (F := Ideal))) ⟨m, fun _ => 0, g⟩ (fun r => (∀ c : Dev Cert.FoldRefIdeal.nD,
      r.2.mem ((c.tc : Thread Cert.FoldRefIdeal.nD Cert.FoldRefIdeal.τ).loc Cert.FoldRefIdeal.main_arg0) = m ((c.tc : Thread Cert.FoldRefIdeal.nD Cert.FoldRefIdeal.τ).loc Cert.FoldRefIdeal.main_arg0)
      ∧ r.2.mem ((c.tc : Thread Cert.FoldRefIdeal.nD Cert.FoldRefIdeal.τ).loc Cert.FoldRefIdeal.main_arg1) = m ((c.tc : Thread Cert.FoldRefIdeal.nD Cert.FoldRefIdeal.τ).loc Cert.FoldRefIdeal.main_arg1)
      ∧ r.2.mem ((c.tc : Thread Cert.FoldRefIdeal.nD Cert.FoldRefIdeal.τ).loc Cert.FoldRefIdeal.main_arg2) = m ((c.tc : Thread Cert.FoldRefIdeal.nD Cert.FoldRefIdeal.τ).loc Cert.FoldRefIdeal.main_arg2))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4)
      ∧ r.2.mem ((c.tc : Thread Cert.GlaFwd.nD Cert.GlaFwd.τ).loc Cert.GlaFwd.main_arg5) = m ((c.tc : Thread Cert.GlaFwd.nD Cert.GlaFwd.τ).loc Cert.GlaFwd.main_arg5)
      ∧ r.2.mem ((c.tc : Thread Cert.GlaFwd.nD Cert.GlaFwd.τ).loc Cert.GlaFwd.main_arg6) = m ((c.tc : Thread Cert.GlaFwd.nD Cert.GlaFwd.τ).loc Cert.GlaFwd.main_arg6))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5)
      ∧ r.2.mem ((c.tc : Thread Cert.GlaFwdIdeal.nD Cert.GlaFwdIdeal.τ).loc Cert.GlaFwdIdeal.main_arg6) = m ((c.tc : Thread Cert.GlaFwdIdeal.nD Cert.GlaFwdIdeal.τ).loc Cert.GlaFwdIdeal.main_arg6))
      ∧ r.2.sem = fun _ => 0)

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v8) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v16) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v19) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v7_0)) (v1 : (c : Dev Cert.MidIdeal.nD) → Buf (Elt Ideal) ((c.tc : Thread Cert.MidIdeal.nD Cert.MidIdeal.τ).loc Cert.MidIdeal.main_v7_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7_0) = v0 c
          ∧ r.2.mem ((c.tc : Thread Cert.MidIdeal.nD Cert.MidIdeal.τ).loc Cert.MidIdeal.main_v7_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v6) = v0 c
          ∧ r.2.mem ((c.tc : Thread Cert.MidRefIdeal.nD Cert.MidRefIdeal.τ).loc Cert.MidRefIdeal.main_v26) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)) →
    ∃ (v0 : (c : Dev Cert.MixOutIdeal.nD) → Buf (Elt Ideal) ((c.tc : Thread Cert.MixOutIdeal.nD Cert.MixOutIdeal.τ).loc Cert.MixOutIdeal.main_v8_0)) (v1 : (c : Dev Cert.MixOutIdeal.nD) → Buf (Elt Ideal) ((c.tc : Thread Cert.MixOutIdeal.nD Cert.MixOutIdeal.τ).loc Cert.MixOutIdeal.main_v8_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v8_0) = v0 c
          ∧ r.2.mem ((c.tc : Thread Cert.MixOutIdeal.nD Cert.MixOutIdeal.τ).loc Cert.MixOutIdeal.main_v8_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v15) = v0 c
          ∧ r.2.mem ((c.tc : Thread Cert.MixOutRefIdeal.nD Cert.MixOutRefIdeal.τ).loc Cert.MixOutRefIdeal.main_v35) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)) →
    ∃ (v0 : (c : Dev Cert.CtxIdeal.nD) → Buf (Elt Ideal) ((c.tc : Thread Cert.CtxIdeal.nD Cert.CtxIdeal.τ).loc Cert.CtxIdeal.main_v3)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v3) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v25) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def preserves_CtxBack_CtxBackIdeal : Prop :=
  True

def algebraic_CtxBackIdeal_CtxBackRefIdeal [hCtxBackIdeal : Cert.CtxBackIdeal.Facts] [hCtxBackRefIdeal : Cert.CtxBackRefIdeal.Facts] : Prop :=
  ∀ (m : (ℓ : Loc Cert.CtxBackIdeal.nD Cert.CtxBackIdeal.τ Cert.CtxBackIdeal.sig) → Buf (Elt Ideal) ℓ) (g : Dev Cert.CtxBackIdeal.nD → PrngReg)
    (m' : (ℓ : Loc Cert.CtxBackRefIdeal.nD Cert.CtxBackRefIdeal.τ Cert.CtxBackRefIdeal.sig) → Buf (Elt Ideal) ℓ) (g' : Dev Cert.CtxBackRefIdeal.nD → PrngReg), Pre_CtxBackIdeal m →
    (∀ c : Dev Cert.CtxBackIdeal.nD,
      m' ((c.tc : Thread Cert.CtxBackRefIdeal.nD Cert.CtxBackRefIdeal.τ).loc Cert.CtxBackRefIdeal.main_arg0) = m ((c.tc : Thread Cert.CtxBackIdeal.nD Cert.CtxBackIdeal.τ).loc Cert.CtxBackIdeal.main_arg0)
      ∧ m' ((c.tc : Thread Cert.CtxBackRefIdeal.nD Cert.CtxBackRefIdeal.τ).loc Cert.CtxBackRefIdeal.main_arg1) = m ((c.tc : Thread Cert.CtxBackIdeal.nD Cert.CtxBackIdeal.τ).loc Cert.CtxBackIdeal.main_arg1)
      ∧ m' ((c.tc : Thread Cert.CtxBackRefIdeal.nD Cert.CtxBackRefIdeal.τ).loc Cert.CtxBackRefIdeal.main_arg2) = m ((c.tc : Thread Cert.CtxBackIdeal.nD Cert.CtxBackIdeal.τ).loc Cert.CtxBackIdeal.main_arg2)
      ∧ m' ((c.tc : Thread Cert.CtxBackRefIdeal.nD Cert.CtxBackRefIdeal.τ).loc Cert.CtxBackRefIdeal.main_arg3) = m ((c.tc : Thread Cert.CtxBackIdeal.nD Cert.CtxBackIdeal.τ).loc Cert.CtxBackIdeal.main_arg3)) →
    ∃ (v0 : (c : Dev Cert.CtxBackIdeal.nD) → Buf (Elt Ideal) ((c.tc : Thread Cert.CtxBackIdeal.nD Cert.CtxBackIdeal.τ).loc Cert.CtxBackIdeal.main_v3)),
      θ_run (Cert.CtxBackIdeal.defs (F := Ideal)) (onTc (τ := Cert.CtxBackIdeal.τ) (Cert.CtxBackIdeal.main (F := Ideal))) ⟨m, fun _ => 0, g⟩ (fun r => ∀ c : Dev Cert.CtxBackIdeal.nD,
          r.2.mem ((c.tc : Thread Cert.CtxBackIdeal.nD Cert.CtxBackIdeal.τ).loc Cert.CtxBackIdeal.main_v3) = v0 c
          ∧ r.2.mem ((c.tc : Thread Cert.CtxBackIdeal.nD Cert.CtxBackIdeal.τ).loc Cert.CtxBackIdeal.main_arg0) = m ((c.tc : Thread Cert.CtxBackIdeal.nD Cert.CtxBackIdeal.τ).loc Cert.CtxBackIdeal.main_arg0)
          ∧ r.2.mem ((c.tc : Thread Cert.CtxBackIdeal.nD Cert.CtxBackIdeal.τ).loc Cert.CtxBackIdeal.main_arg1) = m ((c.tc : Thread Cert.CtxBackIdeal.nD Cert.CtxBackIdeal.τ).loc Cert.CtxBackIdeal.main_arg1)
          ∧ r.2.mem ((c.tc : Thread Cert.CtxBackIdeal.nD Cert.CtxBackIdeal.τ).loc Cert.CtxBackIdeal.main_arg2) = m ((c.tc : Thread Cert.CtxBackIdeal.nD Cert.CtxBackIdeal.τ).loc Cert.CtxBackIdeal.main_arg2)
          ∧ r.2.mem ((c.tc : Thread Cert.CtxBackIdeal.nD Cert.CtxBackIdeal.τ).loc Cert.CtxBackIdeal.main_arg3) = m ((c.tc : Thread Cert.CtxBackIdeal.nD Cert.CtxBackIdeal.τ).loc Cert.CtxBackIdeal.main_arg3))
      ∧ θ_run (Cert.CtxBackRefIdeal.defs (F := Ideal)) (onTc (τ := Cert.CtxBackRefIdeal.τ) (Cert.CtxBackRefIdeal.main (F := Ideal))) ⟨m', fun _ => 0, g'⟩ (fun r => ∀ c : Dev Cert.CtxBackRefIdeal.nD,
          r.2.mem ((c.tc : Thread Cert.CtxBackRefIdeal.nD Cert.CtxBackRefIdeal.τ).loc Cert.CtxBackRefIdeal.main_v28) = v0 c
          ∧ r.2.mem ((c.tc : Thread Cert.CtxBackRefIdeal.nD Cert.CtxBackRefIdeal.τ).loc Cert.CtxBackRefIdeal.main_arg0) = m' ((c.tc : Thread Cert.CtxBackRefIdeal.nD Cert.CtxBackRefIdeal.τ).loc Cert.CtxBackRefIdeal.main_arg0)
          ∧ r.2.mem ((c.tc : Thread Cert.CtxBackRefIdeal.nD Cert.CtxBackRefIdeal.τ).loc Cert.CtxBackRefIdeal.main_arg1) = m' ((c.tc : Thread Cert.CtxBackRefIdeal.nD Cert.CtxBackRefIdeal.τ).loc Cert.CtxBackRefIdeal.main_arg1)
          ∧ r.2.mem ((c.tc : Thread Cert.CtxBackRefIdeal.nD Cert.CtxBackRefIdeal.τ).loc Cert.CtxBackRefIdeal.main_arg2) = m' ((c.tc : Thread Cert.CtxBackRefIdeal.nD Cert.CtxBackRefIdeal.τ).loc Cert.CtxBackRefIdeal.main_arg2)
          ∧ r.2.mem ((c.tc : Thread Cert.CtxBackRefIdeal.nD Cert.CtxBackRefIdeal.τ).loc Cert.CtxBackRefIdeal.main_arg3) = m' ((c.tc : Thread Cert.CtxBackRefIdeal.nD Cert.CtxBackRefIdeal.τ).loc Cert.CtxBackRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v19) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_DftA_DftAIdeal : Prop :=
  True

def algebraic_DftAIdeal_DftARefIdeal [hDftAIdeal : Cert.DftAIdeal.Facts] [hDftARefIdeal : Cert.DftARefIdeal.Facts] : Prop :=
  ∀ (m : (ℓ : Loc Cert.DftAIdeal.nD Cert.DftAIdeal.τ Cert.DftAIdeal.sig) → Buf (Elt Ideal) ℓ) (g : Dev Cert.DftAIdeal.nD → PrngReg)
    (m' : (ℓ : Loc Cert.DftARefIdeal.nD Cert.DftARefIdeal.τ Cert.DftARefIdeal.sig) → Buf (Elt Ideal) ℓ) (g' : Dev Cert.DftARefIdeal.nD → PrngReg), Pre_DftAIdeal m →
    (∀ c : Dev Cert.DftAIdeal.nD,
      m' ((c.tc : Thread Cert.DftARefIdeal.nD Cert.DftARefIdeal.τ).loc Cert.DftARefIdeal.main_arg0) = m ((c.tc : Thread Cert.DftAIdeal.nD Cert.DftAIdeal.τ).loc Cert.DftAIdeal.main_arg0)
      ∧ m' ((c.tc : Thread Cert.DftARefIdeal.nD Cert.DftARefIdeal.τ).loc Cert.DftARefIdeal.main_arg1) = m ((c.tc : Thread Cert.DftAIdeal.nD Cert.DftAIdeal.τ).loc Cert.DftAIdeal.main_arg1)
      ∧ m' ((c.tc : Thread Cert.DftARefIdeal.nD Cert.DftARefIdeal.τ).loc Cert.DftARefIdeal.main_arg2) = m ((c.tc : Thread Cert.DftAIdeal.nD Cert.DftAIdeal.τ).loc Cert.DftAIdeal.main_arg2)) →
    ∃ (v0 : (c : Dev Cert.DftAIdeal.nD) → Buf (Elt Ideal) ((c.tc : Thread Cert.DftAIdeal.nD Cert.DftAIdeal.τ).loc Cert.DftAIdeal.main_v6)),
      θ_run (Cert.DftAIdeal.defs (F := Ideal)) (onTc (τ := Cert.DftAIdeal.τ) (Cert.DftAIdeal.main (F := Ideal))) ⟨m, fun _ => 0, g⟩ (fun r => ∀ c : Dev Cert.DftAIdeal.nD,
          r.2.mem ((c.tc : Thread Cert.DftAIdeal.nD Cert.DftAIdeal.τ).loc Cert.DftAIdeal.main_v6) = v0 c
          ∧ r.2.mem ((c.tc : Thread Cert.DftAIdeal.nD Cert.DftAIdeal.τ).loc Cert.DftAIdeal.main_arg0) = m ((c.tc : Thread Cert.DftAIdeal.nD Cert.DftAIdeal.τ).loc Cert.DftAIdeal.main_arg0)
          ∧ r.2.mem ((c.tc : Thread Cert.DftAIdeal.nD Cert.DftAIdeal.τ).loc Cert.DftAIdeal.main_arg1) = m ((c.tc : Thread Cert.DftAIdeal.nD Cert.DftAIdeal.τ).loc Cert.DftAIdeal.main_arg1)
          ∧ r.2.mem ((c.tc : Thread Cert.DftAIdeal.nD Cert.DftAIdeal.τ).loc Cert.DftAIdeal.main_arg2) = m ((c.tc : Thread Cert.DftAIdeal.nD Cert.DftAIdeal.τ).loc Cert.DftAIdeal.main_arg2))
      ∧ θ_run (Cert.DftARefIdeal.defs (F := Ideal)) (onTc (τ := Cert.DftARefIdeal.τ) (Cert.DftARefIdeal.main (F := Ideal))) ⟨m', fun _ => 0, g'⟩ (fun r => ∀ c : Dev Cert.DftARefIdeal.nD,
          r.2.mem ((c.tc : Thread Cert.DftARefIdeal.nD Cert.DftARefIdeal.τ).loc Cert.DftARefIdeal.main_v16) = v0 c
          ∧ r.2.mem ((c.tc : Thread Cert.DftARefIdeal.nD Cert.DftARefIdeal.τ).loc Cert.DftARefIdeal.main_arg0) = m' ((c.tc : Thread Cert.DftARefIdeal.nD Cert.DftARefIdeal.τ).loc Cert.DftARefIdeal.main_arg0)
          ∧ r.2.mem ((c.tc : Thread Cert.DftARefIdeal.nD Cert.DftARefIdeal.τ).loc Cert.DftARefIdeal.main_arg1) = m' ((c.tc : Thread Cert.DftARefIdeal.nD Cert.DftARefIdeal.τ).loc Cert.DftARefIdeal.main_arg1)
          ∧ r.2.mem ((c.tc : Thread Cert.DftARefIdeal.nD Cert.DftARefIdeal.τ).loc Cert.DftARefIdeal.main_arg2) = m' ((c.tc : Thread Cert.DftARefIdeal.nD Cert.DftARefIdeal.τ).loc Cert.DftARefIdeal.main_arg2))

def preserves_DftB_DftBIdeal : Prop :=
  True

def algebraic_DftBIdeal_DftBRefIdeal [hDftBIdeal : Cert.DftBIdeal.Facts] [hDftBRefIdeal : Cert.DftBRefIdeal.Facts] : Prop :=
  ∀ (m : (ℓ : Loc Cert.DftBIdeal.nD Cert.DftBIdeal.τ Cert.DftBIdeal.sig) → Buf (Elt Ideal) ℓ) (g : Dev Cert.DftBIdeal.nD → PrngReg)
    (m' : (ℓ : Loc Cert.DftBRefIdeal.nD Cert.DftBRefIdeal.τ Cert.DftBRefIdeal.sig) → Buf (Elt Ideal) ℓ) (g' : Dev Cert.DftBRefIdeal.nD → PrngReg), Pre_DftBIdeal m →
    (∀ c : Dev Cert.DftBIdeal.nD,
      m' ((c.tc : Thread Cert.DftBRefIdeal.nD Cert.DftBRefIdeal.τ).loc Cert.DftBRefIdeal.main_arg0) = m ((c.tc : Thread Cert.DftBIdeal.nD Cert.DftBIdeal.τ).loc Cert.DftBIdeal.main_arg0)
      ∧ m' ((c.tc : Thread Cert.DftBRefIdeal.nD Cert.DftBRefIdeal.τ).loc Cert.DftBRefIdeal.main_arg1) = m ((c.tc : Thread Cert.DftBIdeal.nD Cert.DftBIdeal.τ).loc Cert.DftBIdeal.main_arg1)
      ∧ m' ((c.tc : Thread Cert.DftBRefIdeal.nD Cert.DftBRefIdeal.τ).loc Cert.DftBRefIdeal.main_arg2) = m ((c.tc : Thread Cert.DftBIdeal.nD Cert.DftBIdeal.τ).loc Cert.DftBIdeal.main_arg2)) →
    ∃ (v0 : (c : Dev Cert.DftBIdeal.nD) → Buf (Elt Ideal) ((c.tc : Thread Cert.DftBIdeal.nD Cert.DftBIdeal.τ).loc Cert.DftBIdeal.main_v4)),
      θ_run (Cert.DftBIdeal.defs (F := Ideal)) (onTc (τ := Cert.DftBIdeal.τ) (Cert.DftBIdeal.main (F := Ideal))) ⟨m, fun _ => 0, g⟩ (fun r => ∀ c : Dev Cert.DftBIdeal.nD,
          r.2.mem ((c.tc : Thread Cert.DftBIdeal.nD Cert.DftBIdeal.τ).loc Cert.DftBIdeal.main_v4) = v0 c
          ∧ r.2.mem ((c.tc : Thread Cert.DftBIdeal.nD Cert.DftBIdeal.τ).loc Cert.DftBIdeal.main_arg0) = m ((c.tc : Thread Cert.DftBIdeal.nD Cert.DftBIdeal.τ).loc Cert.DftBIdeal.main_arg0)
          ∧ r.2.mem ((c.tc : Thread Cert.DftBIdeal.nD Cert.DftBIdeal.τ).loc Cert.DftBIdeal.main_arg1) = m ((c.tc : Thread Cert.DftBIdeal.nD Cert.DftBIdeal.τ).loc Cert.DftBIdeal.main_arg1)
          ∧ r.2.mem ((c.tc : Thread Cert.DftBIdeal.nD Cert.DftBIdeal.τ).loc Cert.DftBIdeal.main_arg2) = m ((c.tc : Thread Cert.DftBIdeal.nD Cert.DftBIdeal.τ).loc Cert.DftBIdeal.main_arg2))
      ∧ θ_run (Cert.DftBRefIdeal.defs (F := Ideal)) (onTc (τ := Cert.DftBRefIdeal.τ) (Cert.DftBRefIdeal.main (F := Ideal))) ⟨m', fun _ => 0, g'⟩ (fun r => ∀ c : Dev Cert.DftBRefIdeal.nD,
          r.2.mem ((c.tc : Thread Cert.DftBRefIdeal.nD Cert.DftBRefIdeal.τ).loc Cert.DftBRefIdeal.main_v10) = v0 c
          ∧ r.2.mem ((c.tc : Thread Cert.DftBRefIdeal.nD Cert.DftBRefIdeal.τ).loc Cert.DftBRefIdeal.main_arg0) = m' ((c.tc : Thread Cert.DftBRefIdeal.nD Cert.DftBRefIdeal.τ).loc Cert.DftBRefIdeal.main_arg0)
          ∧ r.2.mem ((c.tc : Thread Cert.DftBRefIdeal.nD Cert.DftBRefIdeal.τ).loc Cert.DftBRefIdeal.main_arg1) = m' ((c.tc : Thread Cert.DftBRefIdeal.nD Cert.DftBRefIdeal.τ).loc Cert.DftBRefIdeal.main_arg1)
          ∧ r.2.mem ((c.tc : Thread Cert.DftBRefIdeal.nD Cert.DftBRefIdeal.τ).loc Cert.DftBRefIdeal.main_arg2) = m' ((c.tc : Thread Cert.DftBRefIdeal.nD Cert.DftBRefIdeal.τ).loc Cert.DftBRefIdeal.main_arg2))

def preserves_Fold_FoldIdeal : Prop :=
  True

def algebraic_FoldIdeal_FoldRefIdeal_pre_finite [hFoldIdeal : Cert.FoldIdeal.Facts] [hFoldRefIdeal : Cert.FoldRefIdeal.Facts] [hPre_finite : Cert.Pre_finite.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldRefIdeal.nD Cert.FoldRefIdeal.τ Cert.FoldRefIdeal.sig) → Buf (Elt Ideal) ℓ) (g' : Dev Cert.FoldRefIdeal.nD → PrngReg), Pre_FoldIdeal_finite m →
    (∀ c : Dev Cert.FoldIdeal.nD,
      m' ((c.tc : Thread Cert.FoldRefIdeal.nD Cert.FoldRefIdeal.τ).loc Cert.FoldRefIdeal.main_arg0) = m ((c.tc : Thread Cert.FoldIdeal.nD Cert.FoldIdeal.τ).loc Cert.FoldIdeal.main_arg0)
      ∧ m' ((c.tc : Thread Cert.FoldRefIdeal.nD Cert.FoldRefIdeal.τ).loc Cert.FoldRefIdeal.main_arg1) = m ((c.tc : Thread Cert.FoldIdeal.nD Cert.FoldIdeal.τ).loc Cert.FoldIdeal.main_arg1)
      ∧ m' ((c.tc : Thread Cert.FoldRefIdeal.nD Cert.FoldRefIdeal.τ).loc Cert.FoldRefIdeal.main_arg2) = m ((c.tc : Thread Cert.FoldIdeal.nD Cert.FoldIdeal.τ).loc Cert.FoldIdeal.main_arg2)) →
    ∃ (v0 : (c : Dev Cert.FoldIdeal.nD) → Buf (Elt Ideal) ((c.tc : Thread Cert.FoldIdeal.nD Cert.FoldIdeal.τ).loc Cert.FoldIdeal.main_v2_0)) (v1 : (c : Dev Cert.FoldIdeal.nD) → Buf (Elt Ideal) ((c.tc : Thread Cert.FoldIdeal.nD Cert.FoldIdeal.τ).loc Cert.FoldIdeal.main_v2_1)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v2_0) = v0 c
          ∧ r.2.mem ((c.tc : Thread Cert.FoldIdeal.nD Cert.FoldIdeal.τ).loc Cert.FoldIdeal.main_v2_1) = v1 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
          ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ θ_run (Cert.FoldRefIdeal.defs (F := Ideal)) (onTc (τ := Cert.FoldRefIdeal.τ) (Cert.FoldRefIdeal.main (F := Ideal))) ⟨m', fun _ => 0, g'⟩ (fun r => ∀ c : Dev Cert.FoldRefIdeal.nD,
          r.2.mem ((c.tc : Thread Cert.FoldRefIdeal.nD Cert.FoldRefIdeal.τ).loc Cert.FoldRefIdeal.main_v3) = v0 c
          ∧ r.2.mem ((c.tc : Thread Cert.FoldRefIdeal.nD Cert.FoldRefIdeal.τ).loc Cert.FoldRefIdeal.main_v7) = v1 c
          ∧ r.2.mem ((c.tc : Thread Cert.FoldRefIdeal.nD Cert.FoldRefIdeal.τ).loc Cert.FoldRefIdeal.main_arg0) = m' ((c.tc : Thread Cert.FoldRefIdeal.nD Cert.FoldRefIdeal.τ).loc Cert.FoldRefIdeal.main_arg0)
          ∧ r.2.mem ((c.tc : Thread Cert.FoldRefIdeal.nD Cert.FoldRefIdeal.τ).loc Cert.FoldRefIdeal.main_arg1) = m' ((c.tc : Thread Cert.FoldRefIdeal.nD Cert.FoldRefIdeal.τ).loc Cert.FoldRefIdeal.main_arg1)
          ∧ r.2.mem ((c.tc : Thread Cert.FoldRefIdeal.nD Cert.FoldRefIdeal.τ).loc Cert.FoldRefIdeal.main_arg2) = m' ((c.tc : Thread Cert.FoldRefIdeal.nD Cert.FoldRefIdeal.τ).loc Cert.FoldRefIdeal.main_arg2))

def preserves_GlaBwd_GlaBwdIdeal : Prop :=
  True

def preserves_GlaFwd_GlaFwdIdeal : Prop :=
  True

def Claim : Prop :=
  ∃ (hFfnIn : Cert.FfnIn.Facts) (hFfnInIdeal : Cert.FfnInIdeal.Facts) (hFfnInRefIdeal : Cert.FfnInRefIdeal.Facts) (hGlu : Cert.Glu.Facts) (hGluIdeal : Cert.GluIdeal.Facts) (hGluRefIdeal : Cert.GluRefIdeal.Facts) (hFinal : Cert.Final.Facts) (hFinalIdeal : Cert.FinalIdeal.Facts) (hFinalRefIdeal : Cert.FinalRefIdeal.Facts) (hMid : Cert.Mid.Facts) (hMidIdeal : Cert.MidIdeal.Facts) (hMidRefIdeal : Cert.MidRefIdeal.Facts) (hMixOut : Cert.MixOut.Facts) (hMixOutIdeal : Cert.MixOutIdeal.Facts) (hMixOutRefIdeal : Cert.MixOutRefIdeal.Facts) (hCtx : Cert.Ctx.Facts) (hCtxIdeal : Cert.CtxIdeal.Facts) (hCtxRefIdeal : Cert.CtxRefIdeal.Facts) (hCtxBack : Cert.CtxBack.Facts) (hCtxBackIdeal : Cert.CtxBackIdeal.Facts) (hCtxBackRefIdeal : Cert.CtxBackRefIdeal.Facts) (hAda : Cert.Ada.Facts) (hAdaIdeal : Cert.AdaIdeal.Facts) (hAdaRefIdeal : Cert.AdaRefIdeal.Facts) (hDftA : Cert.DftA.Facts) (hDftAIdeal : Cert.DftAIdeal.Facts) (hDftARefIdeal : Cert.DftARefIdeal.Facts) (hDftB : Cert.DftB.Facts) (hDftBIdeal : Cert.DftBIdeal.Facts) (hDftBRefIdeal : Cert.DftBRefIdeal.Facts) (hFold : Cert.Fold.Facts) (hFoldIdeal : Cert.FoldIdeal.Facts) (hFoldRefIdeal : Cert.FoldRefIdeal.Facts) (hGlaBwd : Cert.GlaBwd.Facts) (hGlaBwdIdeal : Cert.GlaBwdIdeal.Facts) (hGlaFwd : Cert.GlaFwd.Facts) (hGlaFwdIdeal : Cert.GlaFwdIdeal.Facts) (hPre_finite : Cert.Pre_finite.Facts),
    quiescent_FfnIn (hFfnIn := hFfnIn)
    ∧ quiescent_FfnInIdeal (hFfnInIdeal := hFfnInIdeal)
    ∧ quiescent_FfnInRefIdeal (hFfnInRefIdeal := hFfnInRefIdeal)
    ∧ quiescent_Glu (hGlu := hGlu)
    ∧ quiescent_GluIdeal (hGluIdeal := hGluIdeal)
    ∧ quiescent_GluRefIdeal (hGluRefIdeal := hGluRefIdeal)
    ∧ quiescent_Final (hFinal := hFinal)
    ∧ quiescent_FinalIdeal (hFinalIdeal := hFinalIdeal)
    ∧ quiescent_FinalRefIdeal (hFinalRefIdeal := hFinalRefIdeal)
    ∧ quiescent_Mid (hMid := hMid)
    ∧ quiescent_MidIdeal (hMidIdeal := hMidIdeal)
    ∧ quiescent_MidRefIdeal (hMidRefIdeal := hMidRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Ctx (hCtx := hCtx)
    ∧ quiescent_CtxIdeal (hCtxIdeal := hCtxIdeal)
    ∧ quiescent_CtxRefIdeal (hCtxRefIdeal := hCtxRefIdeal)
    ∧ quiescent_CtxBack (hCtxBack := hCtxBack)
    ∧ quiescent_CtxBackIdeal (hCtxBackIdeal := hCtxBackIdeal)
    ∧ quiescent_CtxBackRefIdeal (hCtxBackRefIdeal := hCtxBackRefIdeal)
    ∧ quiescent_Ada (hAda := hAda)
    ∧ quiescent_AdaIdeal (hAdaIdeal := hAdaIdeal)
    ∧ quiescent_AdaRefIdeal (hAdaRefIdeal := hAdaRefIdeal)
    ∧ quiescent_DftA (hDftA := hDftA)
    ∧ quiescent_DftAIdeal (hDftAIdeal := hDftAIdeal)
    ∧ quiescent_DftARefIdeal (hDftARefIdeal := hDftARefIdeal)
    ∧ quiescent_DftB (hDftB := hDftB)
    ∧ quiescent_DftBIdeal (hDftBIdeal := hDftBIdeal)
    ∧ quiescent_DftBRefIdeal (hDftBRefIdeal := hDftBRefIdeal)
    ∧ quiescent_Fold (hFold := hFold)
    ∧ quiescent_FoldIdeal (hFoldIdeal := hFoldIdeal)
    ∧ quiescent_FoldIdeal_pre_finite (hFoldIdeal := hFoldIdeal) (hPre_finite := hPre_finite)
    ∧ quiescent_FoldRefIdeal (hFoldRefIdeal := hFoldRefIdeal)
    ∧ quiescent_FoldRefIdeal_pre_finite (hFoldRefIdeal := hFoldRefIdeal) (hPre_finite := hPre_finite)
    ∧ quiescent_GlaBwd (hGlaBwd := hGlaBwd)
    ∧ quiescent_GlaBwdIdeal (hGlaBwdIdeal := hGlaBwdIdeal)
    ∧ quiescent_GlaFwd (hGlaFwd := hGlaFwd)
    ∧ quiescent_GlaFwdIdeal (hGlaFwdIdeal := hGlaFwdIdeal)
    ∧ preserves_FfnIn_FfnInIdeal
    ∧ algebraic_FfnInIdeal_FfnInRefIdeal (hFfnInIdeal := hFfnInIdeal) (hFfnInRefIdeal := hFfnInRefIdeal)
    ∧ preserves_Glu_GluIdeal
    ∧ algebraic_GluIdeal_GluRefIdeal (hGluIdeal := hGluIdeal) (hGluRefIdeal := hGluRefIdeal)
    ∧ preserves_Final_FinalIdeal
    ∧ algebraic_FinalIdeal_FinalRefIdeal (hFinalIdeal := hFinalIdeal) (hFinalRefIdeal := hFinalRefIdeal)
    ∧ preserves_Mid_MidIdeal
    ∧ algebraic_MidIdeal_MidRefIdeal (hMidIdeal := hMidIdeal) (hMidRefIdeal := hMidRefIdeal)
    ∧ preserves_MixOut_MixOutIdeal
    ∧ algebraic_MixOutIdeal_MixOutRefIdeal (hMixOutIdeal := hMixOutIdeal) (hMixOutRefIdeal := hMixOutRefIdeal)
    ∧ preserves_Ctx_CtxIdeal
    ∧ algebraic_CtxIdeal_CtxRefIdeal (hCtxIdeal := hCtxIdeal) (hCtxRefIdeal := hCtxRefIdeal)
    ∧ preserves_CtxBack_CtxBackIdeal
    ∧ algebraic_CtxBackIdeal_CtxBackRefIdeal (hCtxBackIdeal := hCtxBackIdeal) (hCtxBackRefIdeal := hCtxBackRefIdeal)
    ∧ preserves_Ada_AdaIdeal
    ∧ algebraic_AdaIdeal_AdaRefIdeal (hAdaIdeal := hAdaIdeal) (hAdaRefIdeal := hAdaRefIdeal)
    ∧ preserves_DftA_DftAIdeal
    ∧ algebraic_DftAIdeal_DftARefIdeal (hDftAIdeal := hDftAIdeal) (hDftARefIdeal := hDftARefIdeal)
    ∧ preserves_DftB_DftBIdeal
    ∧ algebraic_DftBIdeal_DftBRefIdeal (hDftBIdeal := hDftBIdeal) (hDftBRefIdeal := hDftBRefIdeal)
    ∧ preserves_Fold_FoldIdeal
    ∧ algebraic_FoldIdeal_FoldRefIdeal_pre_finite (hFoldIdeal := hFoldIdeal) (hFoldRefIdeal := hFoldRefIdeal) (hPre_finite := hPre_finite)
    ∧ preserves_GlaBwd_GlaBwdIdeal
    ∧ preserves_GlaFwd_GlaFwdIdeal
-- ==== Pre_finite.lean ====
abbrev S2048x1024 : Shape := ⟨2, ![2048, 1024]⟩
abbrev S256x256 : Shape := ⟨2, ![256, 256]⟩
abbrev S_ : Shape := ⟨0, ![]⟩

class Facts : Prop where
  bcast_S_S2048x1024 : S_.BroadcastsInDim S2048x1024 (![] : Fin 0 → Fin S2048x1024.rank)
  bcast_S_S256x256 : S_.BroadcastsInDim S256x256 (![] : Fin 0 → Fin S256x256.rank)

variable [Facts]

def fn {F : FTy → Type} [FloatOps F] (main_arg0 : FVec F S2048x1024 .f32) (main_arg1 : FVec F S256x256 .f32) (main_arg2 : FVec F S256x256 .f32) : IVec S2048x1024 1 × IVec S256x256 1 × IVec S256x256 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S256x256 .f32 := Host.absf main_arg1
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : FVec F S256x256 .f32 := Host.absf main_arg2
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  (main_v2, main_v5, main_v8)
-- ==== FfnIn.lean ====
abbrev S2x16384x2048 : Shape := ⟨3, ![2, 16384, 2048]⟩
abbrev S2x2048x11264 : Shape := ⟨3, ![2, 2048, 11264]⟩
abbrev S2x16384x5632 : Shape := ⟨3, ![2, 16384, 5632]⟩
abbrev S1x2048x2048 : Shape := ⟨3, ![1, 2048, 2048]⟩
abbrev S1x2048x512 : Shape := ⟨3, ![1, 2048, 512]⟩
abbrev S1x512x2048 : Shape := ⟨3, ![1, 512, 2048]⟩
abbrev S512x2048 : Shape := ⟨2, ![512, 2048]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2x16384x2048, .bf16⟩
  | .hbm, ⟨1, _⟩ => ⟨S2x2048x11264, .f32⟩
  | .hbm, ⟨2, _⟩ => ⟨S2x2048x11264, .bf16⟩
  | .hbm, ⟨3, _⟩ => ⟨S2x16384x5632, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FfnInRefIdeal.lean ====
abbrev S2x16384x2048 : Shape := ⟨3, ![2, 16384, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S2x16384x5632 : Shape := ⟨3, ![2, 16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x2048x11264, .f32⟩
  | .hbm, ⟨2, _⟩ => ⟨S2x16384x2048, .f32⟩
  | .hbm, ⟨3, _⟩ => ⟨S1x2048x11264, .f32⟩
  | .hbm, ⟨4, _⟩ => ⟨S2048x11264, .f32⟩
  | .hbm, ⟨5, _⟩ => ⟨S2x16384x11264, .f32⟩
  | .hbm, ⟨6, _⟩ => ⟨S2x16384x5632, .f32⟩
  | .hbm, ⟨7, _⟩ => ⟨S2x16384x5632, .f32⟩
  | .hbm, ⟨8, _⟩ => ⟨S2x16384x5632, .f32⟩
  | .hbm, ⟨9, _⟩ => ⟨S_, .f32⟩
  | .hbm, ⟨10, _⟩ => ⟨S2x16384x5632, .f32⟩
  | .hbm, ⟨11, _⟩ => ⟨S2x16384x5632, .f32⟩
  | .hbm, ⟨12, _⟩ => ⟨S_, .f32⟩
  | .hbm, ⟨13, _⟩ => ⟨S2x16384x5632, .f32⟩
  | .hbm, ⟨14, _⟩ => ⟨S2x16384x5632, .f32⟩
  | .hbm, ⟨15, _⟩ => ⟨S2x16384x5632, .f32⟩
  | .hbm, ⟨16, _⟩ => ⟨S2x16384x5632, .f32⟩
  | .hbm, ⟨17, _⟩ => ⟨S2x16384x5632, .f32⟩
  | .hbm, ⟨18, _⟩ => ⟨S2x16384x5632, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Glu.lean ====
abbrev S2x16384x2048 : Shape := ⟨3, ![2, 16384, 2048]⟩
abbrev S1x2048x4096 : Shape := ⟨3, ![1, 2048, 4096]⟩
abbrev S1x4096 : Shape := ⟨2, ![1, 4096]⟩
abbrev S4096 : Shape := ⟨1, ![4096]⟩
abbrev S1x2048x2048 : Shape := ⟨3, ![1, 2048, 2048]⟩
abbrev S1x2048x512 : Shape := ⟨3, ![1, 2048, 512]⟩
abbrev S1x512 : Shape := ⟨2, ![1, 512]⟩
abbrev S1x512x2048 : Shape := ⟨3, ![1, 512, 2048]⟩
abbrev S512x2048 : Shape := ⟨2, ![512, 2048]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x16384x2048, .bf16⟩
  | .hbm, ⟨1, _⟩ => ⟨S1x2048x4096, .f32⟩
  | .hbm, ⟨2, _⟩ => ⟨S1x4096, .f32⟩
  | .hbm, ⟨3, _⟩ => ⟨S1x2048x4096, .bf16⟩
  | .hbm, ⟨4, _⟩ => ⟨S4096, .f32⟩
  | .hbm, ⟨5, _⟩ => ⟨S1x4096, .f32⟩
  | .hbm, ⟨6, _⟩ => ⟨S2x16384x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x2048x512, .bf16⟩
  | .local _ .vmem, ⟨11, _⟩ => ⟨S1x2048x512, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GluRefIdeal.lean ====
abbrev S2x16384x2048 : Shape := ⟨3, ![2, 16384, 2048]⟩
abbrev S1x2048x4096 : Shape := ⟨3, ![1, 2048, 4096]⟩
abbrev S1x4096 : Shape := ⟨2, ![1, 4096]⟩
abbrev S2048x4096 : Shape := ⟨2, ![2048, 4096]⟩
abbrev S2x16384x4096 : Shape := ⟨3, ![2, 16384, 4096]⟩
abbrev S4096 : Shape := ⟨1, ![4096]⟩
abbrev S1x1x4096 : Shape := ⟨3, ![1, 1, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S1x2048x4096, .f32⟩
  | .hbm, ⟨2, _⟩ => ⟨S1x4096, .f32⟩
  | .hbm, ⟨3, _⟩ => ⟨S2x16384x2048, .f32⟩
  | .hbm, ⟨4, _⟩ => ⟨S2048x4096, .f32⟩
  | .hbm, ⟨5, _⟩ => ⟨S2x16384x4096, .f32⟩
  | .hbm, ⟨6, _⟩ => ⟨S4096, .f32⟩
  | .hbm, ⟨7, _⟩ => ⟨S1x1x4096, .f32⟩
  | .hbm, ⟨8, _⟩ => ⟨S2x16384x4096, .f32⟩
  | .hbm, ⟨9, _⟩ => ⟨S2x16384x4096, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S_, .f32⟩
  | .hbm, ⟨15, _⟩ => ⟨S2x16384x2048, .f32⟩
  | .hbm, ⟨16, _⟩ => ⟨S2x16384x2048, .f32⟩
  | .hbm, ⟨17, _⟩ => ⟨S_, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | .hbm, ⟨21, _⟩ => ⟨S2x16384x2048, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Final.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2048 : Shape := ⟨1, ![2048]⟩
abbrev S1x2048 : Shape := ⟨2, ![1, 2048]⟩
abbrev S1x256x5632 : Shape := ⟨3, ![1, 256, 5632]⟩
abbrev S1x5632x2048 : Shape := ⟨3, ![1, 5632, 2048]⟩
abbrev S1x256x2048 : Shape := ⟨3, ![1, 256, 2048]⟩
abbrev S1x1x2048 : Shape := ⟨3, ![1, 1, 2048]⟩
abbrev S256x2048 : Shape := ⟨2, ![256, 2048]⟩
abbrev S256x5632 : Shape := ⟨2, ![256, 5632]⟩
abbrev S5632x2048 : Shape := ⟨2, ![5632, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x16384x5632, .bf16⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S2x5632x2048, .bf16⟩
  | .hbm, ⟨6, _⟩ => ⟨S1x2048, .f32⟩
  | .hbm, ⟨7, _⟩ => ⟨S2x16384x2048, .f32⟩
  | .local _ .vmem, ⟨0, _⟩ => ⟨S1x256x5632, .bf16⟩
  | .local _ .vmem, ⟨1, _⟩ => ⟨S1x256x5632, .bf16⟩
  | .local _ .vmem, ⟨2, _⟩ => ⟨S1x5632x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S2x16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalRefIdeal.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x5632, .bf16⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S2x16384x5632, .f32⟩
  | .hbm, ⟨6, _⟩ => ⟨S1x5632x2048, .f32⟩
  | .hbm, ⟨7, _⟩ => ⟨S5632x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | _, _ => ⟨S2x16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Mid.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2048 : Shape := ⟨1, ![2048]⟩
abbrev S1x2048 : Shape := ⟨2, ![1, 2048]⟩
abbrev S_ : Shape := ⟨0, ![]⟩
abbrev S1x1x2048 : Shape := ⟨3, ![1, 1, 2048]⟩
abbrev S1x256x5632 : Shape := ⟨3, ![1, 256, 5632]⟩
abbrev S1x5632x2048 : Shape := ⟨3, ![1, 5632, 2048]⟩
abbrev S1x256x2048 : Shape := ⟨3, ![1, 256, 2048]⟩
abbrev S256x2048 : Shape := ⟨2, ![256, 2048]⟩
abbrev S256x5632 : Shape := ⟨2, ![256, 5632]⟩
abbrev S5632x2048 : Shape := ⟨2, ![5632, 2048]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S2x16384x5632, .bf16⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S2x5632x2048, .bf16⟩
  | .hbm, ⟨8, _⟩ => ⟨S1x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S1x1x2048, .f32⟩
  | .hbm, ⟨13, _⟩ => ⟨S2x1x2048, .f32⟩
  | .hbm, ⟨14, _⟩ => ⟨S2x1x2048, .f32⟩
  | .hbm, ⟨15, _⟩ => ⟨S2x16384x2048, .f32⟩
  | .hbm, ⟨16, _⟩ => ⟨S2x16384x2048, .bf16⟩
  | .local _ .vmem, ⟨0, _⟩ => ⟨S1x256x5632, .bf16⟩
  | .local _ .vmem, ⟨1, _⟩ => ⟨S1x256x5632, .bf16⟩
  | .local _ .vmem, ⟨2, _⟩ => ⟨S1x5632x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .bf16⟩
  | .local _ .vmem, ⟨14, _⟩ => ⟨S1x256x2048, .bf16⟩
  | _, _ => ⟨S2x16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MidRefIdeal.lean ====
abbrev S2x16384x5632 : Shape := ⟨3, ![2, 16384, 5632]⟩
abbrev S2x5632x2048 : Shape := ⟨3, ![2, 5632, 2048]⟩
abbrev S2x16384x2048 : Shape := ⟨3, ![2, 16384, 2048]⟩
abbrev S2x1x2048 : Shape := ⟨3, ![2, 1, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x5632, .bf16⟩
  | .hbm, ⟨1, _⟩ => ⟨S2x5632x2048, .f32⟩
  | .hbm, ⟨2, _⟩ => ⟨S2x16384x2048, .f32⟩
  | .hbm, ⟨3, _⟩ => ⟨S2x1x2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S2x16384x5632, .f32⟩
  | .hbm, ⟨8, _⟩ => ⟨S1x5632x2048, .f32⟩
  | .hbm, ⟨9, _⟩ => ⟨S5632x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S2x16384x2048, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x2048, .bf16⟩
  | _, _ => ⟨S2x16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MixOut.lean ====
abbrev S2x16384x1024 : Shape := ⟨3, ![2, 16384, 1024]⟩
abbrev S1x2048x2048 : Shape := ⟨3, ![1, 2048, 2048]⟩
abbrev S2x16384x2048 : Shape := ⟨3, ![2, 16384, 2048]⟩
abbrev S256x1024 : Shape := ⟨2, ![256, 1024]⟩
abbrev S64x1024 : Shape := ⟨2, ![64, 1024]⟩
abbrev S2x1x2048 : Shape := ⟨3, ![2, 1, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩
abbrev S1x1x2048 : Shape := ⟨3, ![1, 1, 2048]⟩
abbrev S1x512x1024 : Shape := ⟨3, ![1, 512, 1024]⟩
abbrev S1x512x2048 : Shape := ⟨3, ![1, 512, 2048]⟩
abbrev S8x1024 : Shape := ⟨2, ![8, 1024]⟩
abbrev S512x1024 : Shape := ⟨2, ![512, 1024]⟩
abbrev S1024x2048 : Shape := ⟨2, ![1024, 2048]⟩
abbrev S512x2048 : Shape := ⟨2, ![512, 2048]⟩
abbrev S1x1024 : Shape := ⟨2, ![1, 1024]⟩
abbrev S64x2048 : Shape := ⟨2, ![64, 2048]⟩
abbrev S1x64x2048 : Shape := ⟨3, ![1, 64, 2048]⟩
abbrev S64 : Shape := ⟨1, ![64]⟩
abbrev S64x1 : Shape := ⟨2, ![64, 1]⟩

abbrev nBuf : Space → Nat
  | .hbm => 21
  | .vmem => 20
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .f32⟩
  | .hbm, ⟨2, _⟩ => ⟨S1x2048x2048, .f32⟩
  | .hbm, ⟨3, _⟩ => ⟨S2x16384x2048, .f32⟩
  | .hbm, ⟨4, _⟩ => ⟨S256x1024, .f32⟩
  | .hbm, ⟨5, _⟩ => ⟨S64x1024, .f32⟩
  | .hbm, ⟨6, _⟩ => ⟨S2x1x2048, .f32⟩
  | .hbm, ⟨7, _⟩ => ⟨S2048, .f32⟩
  | .hbm, ⟨8, _⟩ => ⟨S2x1x2048, .f32⟩
  | .hbm, ⟨9, _⟩ => ⟨S2x1x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S_, .f32⟩
  | .hbm, ⟨14, _⟩ => ⟨S2x1x2048, .f32⟩
  | .hbm, ⟨15, _⟩ => ⟨S2x1x2048, .f32⟩
  | .hbm, ⟨16, _⟩ => ⟨S1x1x2048, .f32⟩
  | .hbm, ⟨17, _⟩ => ⟨S2x1x2048, .f32⟩
  | .hbm, ⟨18, _⟩ => ⟨S2x1x2048, .f32⟩
  | .hbm, ⟨19, _⟩ => ⟨S2x16384x2048, .f32⟩
  | .hbm, ⟨20, _⟩ => ⟨S2x16384x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S2048x2048, .bf16⟩
  | .local _ .vmem, ⟨5, _⟩ => ⟨S1x512x2048, .f32⟩
  | .local _ .vmem, ⟨6, _⟩ => ⟨S1x512x2048, .f32⟩
  | .local _ .vmem, ⟨7, _⟩ => ⟨S8x1024, .f32⟩
  | .local _ .vmem, ⟨8, _⟩ => ⟨S8x1024, .f32⟩
  | .local _ .vmem, ⟨9, _⟩ => ⟨S64x1024, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x512x2048, .f32⟩
  | .local _ .vmem, ⟨17, _⟩ => ⟨S1x512x2048, .f32⟩
  | .local _ .vmem, ⟨18, _⟩ => ⟨S1x512x2048, .bf16⟩
  | .local _ .vmem, ⟨19, _⟩ => ⟨S1x512x2048, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixOutRefIdeal.lean ====
abbrev S2x16384x1024 : Shape := ⟨3, ![2, 16384, 1024]⟩
abbrev S1x2048x2048 : Shape := ⟨3, ![1, 2048, 2048]⟩
abbrev S2x16384x2048 : Shape := ⟨3, ![2, 16384, 2048]⟩
abbrev S256x1024 : Shape := ⟨2, ![256, 1024]⟩
abbrev S64x1024 : Shape := ⟨2, ![64, 1024]⟩
abbrev S2x1x2048 : Shape := ⟨3, ![2, 1, 2048]⟩
abbrev S2048 : Shape := ⟨1, ![2048]⟩
abbrev S2048x2048 : Shape := ⟨2, ![2048, 2048]⟩
abbrev S256x64x1024 : Shape := ⟨3, ![256, 64, 1024]⟩
abbrev S16384x1024 : Shape := ⟨2, ![16384, 1024]⟩
abbrev S1x64x1x1024 : Shape := ⟨4, ![1, 64, 1, 1024]⟩
abbrev S256x64x1x1024 : Shape := ⟨4, ![256, 64, 1, 1024]⟩
abbrev S16384x2048 : Shape := ⟨2, ![16384, 2048]⟩
abbrev S1x16384x2048 : Shape := ⟨3, ![1, 16384, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .f32⟩
  | .hbm, ⟨2, _⟩ => ⟨S1x2048x2048, .f32⟩
  | .hbm, ⟨3, _⟩ => ⟨S2x16384x2048, .f32⟩
  | .hbm, ⟨4, _⟩ => ⟨S256x1024, .f32⟩
  | .hbm, ⟨5, _⟩ => ⟨S64x1024, .f32⟩
  | .hbm, ⟨6, _⟩ => ⟨S2x1x2048, .f32⟩
  | .hbm, ⟨7, _⟩ => ⟨S2048, .f32⟩
  | .hbm, ⟨8, _⟩ => ⟨S2x1x2048, .f32⟩
  | .hbm, ⟨9, _⟩ => ⟨S2x1x2048, .f32⟩
  | .hbm, ⟨10, _⟩ => ⟨S2x16384x1024, .f32⟩
  | .hbm, ⟨11, _⟩ => ⟨S2x16384x2048, .f32⟩
  | .hbm, ⟨12, _⟩ => ⟨S2048x2048, .f32⟩
  | .hbm, ⟨13, _⟩ => ⟨S2x16384x2048, .f32⟩
  | .hbm, ⟨14, _⟩ => ⟨S256x64x1024, .f32⟩
  | .hbm, ⟨15, _⟩ => ⟨S16384x1024, .f32⟩
  | .hbm, ⟨16, _⟩ => ⟨S1x64x1x1024, .f32⟩
  | .hbm, ⟨17, _⟩ => ⟨S256x64x1x1024, .f32⟩
  | .hbm, ⟨18, _⟩ => ⟨S16384x1024, .f32⟩
  | .hbm, ⟨19, _⟩ => ⟨S16384x2048, .f32⟩
  | .hbm, ⟨20, _⟩ => ⟨S1x16384x2048, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S_, .f32⟩
  | .hbm, ⟨28, _⟩ => ⟨S2x16384, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x1, .f32⟩
  | .hbm, ⟨37, _⟩ => ⟨S2x16384x2048, .f32⟩
  | .hbm, ⟨38, _⟩ => ⟨S2x16384x2048, .f32⟩
  | .hbm, ⟨39, _⟩ => ⟨S1x1x2048, .f32⟩
  | .hbm, ⟨40, _⟩ => ⟨S2x16384x2048, .f32⟩
  | .hbm, ⟨41, _⟩ => ⟨S2x16384x2048, .f32⟩
  | .hbm, ⟨42, _⟩ => ⟨S_, .f32⟩
  | .hbm, ⟨43, _⟩ => ⟨S2x1x2048, .f32⟩
  | .hbm, ⟨44, _⟩ => ⟨S2x1x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Ctx.lean ====
abbrev S2x256x3072 : Shape := ⟨3, ![2, 256, 3072]⟩
abbrev S2x256x128 : Shape := ⟨3, ![2, 256, 128]⟩
abbrev S16x512 : Shape := ⟨2, ![16, 512]⟩
abbrev S512 : Shape := ⟨1, ![512]⟩
abbrev S_ : Shape := ⟨0, ![]⟩
abbrev S128x512 : Shape := ⟨2, ![128, 512]⟩
abbrev S1x512 : Shape := ⟨2, ![1, 512]⟩
abbrev S2x4x256x128 : Shape := ⟨4, ![2, 4, 256, 128]⟩
abbrev S1x256x512 : Shape := ⟨3, ![1, 256, 512]⟩
abbrev S1x256x1024 : Shape := ⟨3, ![1, 256, 1024]⟩
abbrev S1x256x128 : Shape := ⟨3, ![1, 256, 128]⟩
abbrev S1x4x256x128 : Shape := ⟨4, ![1, 4, 256, 128]⟩
abbrev S256x256 : Shape := ⟨2, ![256, 256]⟩
abbrev S256x128 : Shape := ⟨2, ![256, 128]⟩
abbrev S256x512 : Shape := ⟨2, ![256, 512]⟩
abbrev S1x128 : Shape := ⟨2, ![1, 128]⟩
abbrev S1x256x256 : Shape := ⟨3, ![1, 256, 256]⟩
abbrev S1x1x256x128 : Shape := ⟨4, ![1, 1, 256, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x256x3072, .bf16⟩
  | .hbm, ⟨1, _⟩ => ⟨S2x256x128, .f32⟩
  | .hbm, ⟨2, _⟩ => ⟨S16x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S128x512, .f32⟩
  | .hbm, ⟨7, _⟩ => ⟨S128x512, .bf16⟩
  | .hbm, ⟨8, _⟩ => ⟨S1x512, .f32⟩
  | .hbm, ⟨9, _⟩ => ⟨S2x4x256x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S128x512, .bf16⟩
  | .local _ .vmem, ⟨7, _⟩ => ⟨S1x512, .f32⟩
  | .local _ .vmem, ⟨8, _⟩ => ⟨S1x4x256x128, .f32⟩
  | .local _ .vmem, ⟨9, _⟩ => ⟨S1x4x256x128, .f32⟩
  | _, _ => ⟨S2x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxRefIdeal.lean ====
abbrev S2x256x3072 : Shape := ⟨3, ![2, 256, 3072]⟩
abbrev S2x256x128 : Shape := ⟨3, ![2, 256, 128]⟩
abbrev S16x512 : Shape := ⟨2, ![16, 512]⟩
abbrev S512 : Shape := ⟨1, ![512]⟩
abbrev S2x256x512 : Shape := ⟨3, ![2, 256, 512]⟩
abbrev S2x256x4x128 : Shape := ⟨4, ![2, 256, 4, 128]⟩
abbrev S2x4x256x128 : Shape := ⟨4, ![2, 4, 256, 128]⟩
abbrev S2x256x1024 : Shape := ⟨3, ![2, 256, 1024]⟩
abbrev S2x256x4x256 : Shape := ⟨4, ![2, 256, 4, 256]⟩
abbrev S2x4x256x256 : Shape := ⟨4, ![2, 4, 256, 256]⟩
abbrev S2x256x16 : Shape := ⟨3, ![2, 256, 16]⟩
abbrev S1x1x512 : Shape := ⟨3, ![1, 1, 512]⟩
abbrev S_ : Shape := ⟨0, ![]⟩
abbrev S2x4x1x128 : Shape := ⟨4, ![2, 4, 1, 128]⟩
abbrev S2x4x128x256 : Shape := ⟨4, ![2, 4, 128, 256]⟩

abbrev nBuf : Space → Nat
  | .hbm => 48
  | .vmem => 0
  | .smem => 0
  | _ => 0

abbrev bufTy : (tb : Table) → Fin (tcTables nBuf tb) → BufTy
  | .hbm, ⟨0, _⟩ => ⟨S2x256x3072, .bf16⟩
  | .hbm, ⟨1, _⟩ => ⟨S2x256x128, .f32⟩
  | .hbm, ⟨2, _⟩ => ⟨S16x512, .f32⟩
  | .hbm, ⟨3, _⟩ => ⟨S512, .f32⟩
  | .hbm, ⟨4, _⟩ => ⟨S2x256x512, .bf16⟩
  | .hbm, ⟨5, _⟩ => ⟨S2x256x4x128, .bf16⟩
  | .hbm, ⟨6, _⟩ => ⟨S2x4x256x128, .bf16⟩
  | .hbm, ⟨7, _⟩ => ⟨S2x4x256x128, .f32⟩
  | .hbm, ⟨8, _⟩ => ⟨S2x256x1024, .bf16⟩
  | .hbm, ⟨9, _⟩ => ⟨S2x256x4x256, .bf16⟩
  | .hbm, ⟨10, _⟩ => ⟨S2x4x256x256, .bf16⟩
  | .hbm, ⟨11, _⟩ => ⟨S2x4x256x256, .f32⟩
  | .hbm, ⟨12, _⟩ => ⟨S2x256x16, .f32⟩
  | .hbm, ⟨13, _⟩ => ⟨S2x256x512, .f32⟩
  | .hbm, ⟨14, _⟩ => ⟨S1x1x512, .f32⟩
  | .hbm, ⟨15, _⟩ => ⟨S2x256x512, .f32⟩
  | .hbm, ⟨16, _⟩ => ⟨S2x256x512, .f32⟩
  | .hbm, ⟨17, _⟩ => ⟨S2x256x512, .f32⟩
  | .hbm, ⟨18, _⟩ => ⟨S_, .f32⟩
  | .hbm, ⟨19, _⟩ => ⟨S2x256x512, .f32⟩
  | .hbm, ⟨20, _⟩ => ⟨S2x256x512, .f32⟩
  | .hbm, ⟨21, _⟩ => ⟨S2x256x512, .f32⟩
  | .hbm, ⟨22, _⟩ => ⟨S2x256x512, .f32⟩
  | .hbm, ⟨23, _⟩ => ⟨S2x256x512, .i1⟩
  | .hbm, ⟨24, _⟩ => ⟨S2x256x512, .f32⟩
  | .hbm, ⟨25, _⟩ => ⟨S2x256x512, .f32⟩
  | .hbm, ⟨26, _⟩ => ⟨S2x256x512, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S2x256x512, .f32⟩
  | .hbm, ⟨31, _⟩ => ⟨S2x256x512, .f32⟩
  | .hbm, ⟨32, _⟩ => ⟨S2x256x512, .f32⟩
  | .hbm, ⟨33, _⟩ => ⟨S_, .f32⟩
  | .hbm, ⟨34, _⟩ => ⟨S2x256x512, .f32⟩
  | .hbm, ⟨35, _⟩ => ⟨S2x256x512, .f32⟩
  | .hbm, ⟨36, _⟩ => ⟨S2x256x4x128, .f32⟩
  | .hbm, ⟨37, _⟩ => ⟨S2x4x256x128, .f32⟩
  | .hbm, ⟨38, _⟩ => ⟨S_, .f32⟩
  | .hbm, ⟨39, _⟩ => ⟨S_, .f32⟩
  | .hbm, ⟨40, _⟩ => ⟨S2x4x256x128, .f32⟩
  | .hbm, ⟨41, _⟩ => ⟨S2x4x1x128, .f32⟩
  | .hbm, ⟨42, _⟩ => ⟨S2x4x256x128, .f32⟩
  | .hbm, ⟨43, _⟩ => ⟨S2x4x256x128, .f32⟩
  | .hbm, ⟨44, _⟩ => ⟨S2x4x256x128, .f32⟩
  | .hbm, ⟨45, _⟩ => ⟨S2x4x256x128, .f32⟩
  | .hbm, ⟨46, _⟩ => ⟨S2x4x128x256, .f32⟩
  | .hbm, ⟨47, _⟩ => ⟨S2x4x256x128, .f32⟩
  | _, _ => ⟨S2x256x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_call0_cst : Ref sig .tc := ⟨.hbm, 38, rfl⟩
abbrev main_call1_call0_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== CtxBack.lean ====
abbrev S2x256x3072 : Shape := ⟨3, ![2, 256, 3072]⟩
abbrev S2x256x128 : Shape := ⟨3, ![2, 256, 128]⟩
abbrev S16x512 : Shape := ⟨2, ![16, 512]⟩
abbrev S512 : Shape := ⟨1, ![512]⟩
abbrev S_ : Shape := ⟨0, ![]⟩
abbrev S128x512 : Shape := ⟨2, ![128, 512]⟩
abbrev S1x512 : Shape := ⟨2, ![1, 512]⟩
abbrev S2x4x256x128 : Shape := ⟨4, ![2, 4, 256, 128]⟩
abbrev S1x256x512 : Shape := ⟨3, ![1, 256, 512]⟩
abbrev S1x256x1024 : Shape := ⟨3, ![1, 256, 1024]⟩
abbrev S1x256x128 : Shape := ⟨3, ![1, 256, 128]⟩
abbrev S1x4x256x128 : Shape := ⟨4, ![1, 4, 256, 128]⟩
abbrev S256x256 : Shape := ⟨2, ![256, 256]⟩
abbrev S256x128 : Shape := ⟨2, ![256, 128]⟩
abbrev S256x512 : Shape := ⟨2, ![256, 512]⟩
abbrev S1x128 : Shape := ⟨2, ![1, 128]⟩
abbrev S1x256x256 : Shape := ⟨3, ![1, 256, 256]⟩
abbrev S1x1x256x128 : Shape := ⟨4, ![1, 1, 256, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x256x3072, .bf16⟩
  | .hbm, ⟨1, _⟩ => ⟨S2x256x128, .f32⟩
  | .hbm, ⟨2, _⟩ => ⟨S16x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S128x512, .f32⟩
  | .hbm, ⟨7, _⟩ => ⟨S128x512, .bf16⟩
  | .hbm, ⟨8, _⟩ => ⟨S1x512, .f32⟩
  | .hbm, ⟨9, _⟩ => ⟨S2x4x256x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S128x512, .bf16⟩
  | .local _ .vmem, ⟨7, _⟩ => ⟨S1x512, .f32⟩
  | .local _ .vmem, ⟨8, _⟩ => ⟨S1x4x256x128, .f32⟩
  | .local _ .vmem, ⟨9, _⟩ => ⟨S1x4x256x128, .f32⟩
  | _, _ => ⟨S2x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxBackRefIdeal.lean ====
abbrev S2x256x3072 : Shape := ⟨3, ![2, 256, 3072]⟩
abbrev S2x256x128 : Shape := ⟨3, ![2, 256, 128]⟩
abbrev S16x512 : Shape := ⟨2, ![16, 512]⟩
abbrev S512 : Shape := ⟨1, ![512]⟩
abbrev S2x256x512 : Shape := ⟨3, ![2, 256, 512]⟩
abbrev S2x256x4x128 : Shape := ⟨4, ![2, 256, 4, 128]⟩
abbrev S2x4x256x128 : Shape := ⟨4, ![2, 4, 256, 128]⟩
abbrev S2x256x1024 : Shape := ⟨3, ![2, 256, 1024]⟩
abbrev S2x256x4x256 : Shape := ⟨4, ![2, 256, 4, 256]⟩
abbrev S2x4x256x256 : Shape := ⟨4, ![2, 4, 256, 256]⟩
abbrev S2x256x16 : Shape := ⟨3, ![2, 256, 16]⟩
abbrev S1x1x512 : Shape := ⟨3, ![1, 1, 512]⟩
abbrev S_ : Shape := ⟨0, ![]⟩
abbrev S2x4x1x128 : Shape := ⟨4, ![2, 4, 1, 128]⟩
abbrev S2x4x128x256 : Shape := ⟨4, ![2, 4, 128, 256]⟩

abbrev nBuf : Space → Nat
  | .hbm => 51
  | .vmem => 0
  | .smem => 0
  | _ => 0

abbrev bufTy : (tb : Table) → Fin (tcTables nBuf tb) → BufTy
  | .hbm, ⟨0, _⟩ => ⟨S2x256x3072, .bf16⟩
  | .hbm, ⟨1, _⟩ => ⟨S2x256x128, .f32⟩
  | .hbm, ⟨2, _⟩ => ⟨S16x512, .f32⟩
  | .hbm, ⟨3, _⟩ => ⟨S512, .f32⟩
  | .hbm, ⟨4, _⟩ => ⟨S2x256x512, .bf16⟩
  | .hbm, ⟨5, _⟩ => ⟨S2x256x4x128, .bf16⟩
  | .hbm, ⟨6, _⟩ => ⟨S2x4x256x128, .bf16⟩
  | .hbm, ⟨7, _⟩ => ⟨S2x4x256x128, .f32⟩
  | .hbm, ⟨8, _⟩ => ⟨S2x256x1024, .bf16⟩
  | .hbm, ⟨9, _⟩ => ⟨S2x256x4x256, .bf16⟩
  | .hbm, ⟨10, _⟩ => ⟨S2x4x256x256, .bf16⟩
  | .hbm, ⟨11, _⟩ => ⟨S2x4x256x256, .f32⟩
  | .hbm, ⟨12, _⟩ => ⟨S2x256x16, .f32⟩
  | .hbm, ⟨13, _⟩ => ⟨S2x256x512, .f32⟩
  | .hbm, ⟨14, _⟩ => ⟨S1x1x512, .f32⟩
  | .hbm, ⟨15, _⟩ => ⟨S2x256x512, .f32⟩
  | .hbm, ⟨16, _⟩ => ⟨S2x256x512, .f32⟩
  | .hbm, ⟨17, _⟩ => ⟨S2x256x512, .f32⟩
  | .hbm, ⟨18, _⟩ => ⟨S_, .f32⟩
  | .hbm, ⟨19, _⟩ => ⟨S2x256x512, .f32⟩
  | .hbm, ⟨20, _⟩ => ⟨S2x256x512, .f32⟩
  | .hbm, ⟨21, _⟩ => ⟨S2x256x512, .f32⟩
  | .hbm, ⟨22, _⟩ => ⟨S2x256x512, .f32⟩
  | .hbm, ⟨23, _⟩ => ⟨S2x256x512, .i1⟩
  | .hbm, ⟨24, _⟩ => ⟨S2x256x512, .f32⟩
  | .hbm, ⟨25, _⟩ => ⟨S2x256x512, .f32⟩
  | .hbm, ⟨26, _⟩ => ⟨S2x256x512, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S2x256x512, .f32⟩
  | .hbm, ⟨31, _⟩ => ⟨S2x256x512, .f32⟩
  | .hbm, ⟨32, _⟩ => ⟨S2x256x512, .f32⟩
  | .hbm, ⟨33, _⟩ => ⟨S_, .f32⟩
  | .hbm, ⟨34, _⟩ => ⟨S2x256x512, .f32⟩
  | .hbm, ⟨35, _⟩ => ⟨S2x256x512, .f32⟩
  | .hbm, ⟨36, _⟩ => ⟨S2x256x4x128, .f32⟩
  | .hbm, ⟨37, _⟩ => ⟨S2x4x256x128, .f32⟩
  | .hbm, ⟨38, _⟩ => ⟨S2x4x256x128, .f32⟩
  | .hbm, ⟨39, _⟩ => ⟨S2x4x256x256, .f32⟩
  | .hbm, ⟨40, _⟩ => ⟨S2x4x256x128, .f32⟩
  | .hbm, ⟨41, _⟩ => ⟨S_, .f32⟩
  | .hbm, ⟨42, _⟩ => ⟨S_, .f32⟩
  | .hbm, ⟨43, _⟩ => ⟨S2x4x256x128, .f32⟩
  | .hbm, ⟨44, _⟩ => ⟨S2x4x1x128, .f32⟩
  | .hbm, ⟨45, _⟩ => ⟨S2x4x256x128, .f32⟩
  | .hbm, ⟨46, _⟩ => ⟨S2x4x256x128, .f32⟩
  | .hbm, ⟨47, _⟩ => ⟨S2x4x256x128, .f32⟩
  | .hbm, ⟨48, _⟩ => ⟨S2x4x256x128, .f32⟩
  | .hbm, ⟨49, _⟩ => ⟨S2x4x128x256, .f32⟩
  | .hbm, ⟨50, _⟩ => ⟨S2x4x256x128, .f32⟩
  | _, _ => ⟨S2x256x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call4_call0_cst : Ref sig .tc := ⟨.hbm, 41, rfl⟩
abbrev main_call4_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Ada.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== DftA.lean ====
abbrev S2x16384x2048 : Shape := ⟨3, ![2, 16384, 2048]⟩
abbrev S128x128 : Shape := ⟨2, ![128, 128]⟩
abbrev S128x256 : Shape := ⟨2, ![128, 256]⟩
abbrev S256x256 : Shape := ⟨2, ![256, 256]⟩
abbrev S2x128x128x2048 : Shape := ⟨4, ![2, 128, 128, 2048]⟩
abbrev S2x2x128x128x1024 : Shape := ⟨5, ![2, 2, 128, 128, 1024]⟩
abbrev S1x128x8x2048 : Shape := ⟨4, ![1, 128, 8, 2048]⟩
abbrev S1x2x8x128x1024 : Shape := ⟨5, ![1, 2, 8, 128, 1024]⟩
abbrev S1x128x1x2048 : Shape := ⟨4, ![1, 128, 1, 2048]⟩
abbrev S128x2048 : Shape := ⟨2, ![128, 2048]⟩
abbrev S128x1024 : Shape := ⟨2, ![128, 1024]⟩
abbrev S256x1024 : Shape := ⟨2, ![256, 1024]⟩
abbrev S1x1x1x128x1024 : Shape := ⟨5, ![1, 1, 1, 128, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S128x128, .f32⟩
  | .hbm, ⟨2, _⟩ => ⟨S128x128, .f32⟩
  | .hbm, ⟨3, _⟩ => ⟨S128x256, .f32⟩
  | .hbm, ⟨4, _⟩ => ⟨S128x128, .f32⟩
  | .hbm, ⟨5, _⟩ => ⟨S128x256, .f32⟩
  | .hbm, ⟨6, _⟩ => ⟨S256x256, .f32⟩
  | .hbm, ⟨7, _⟩ => ⟨S256x256, .bf16⟩
  | .hbm, ⟨8, _⟩ => ⟨S2x128x128x2048, .f32⟩
  | .hbm, ⟨9, _⟩ => ⟨S2x2x128x128x1024, .f32⟩
  | .local _ .vmem, ⟨0, _⟩ => ⟨S1x128x8x2048, .f32⟩
  | .local _ .vmem, ⟨1, _⟩ => ⟨S1x128x8x2048, .f32⟩
  | .local _ .vmem, ⟨2, _⟩ => ⟨S256x256, .bf16⟩
  | .local _ .vmem, ⟨3, _⟩ => ⟨S1x2x8x128x1024, .f32⟩
  | .local _ .vmem, ⟨4, _⟩ => ⟨S1x2x8x128x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x128x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x8x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftARefIdeal.lean ====
abbrev S2x16384x2048 : Shape := ⟨3, ![2, 16384, 2048]⟩
abbrev S128x128 : Shape := ⟨2, ![128, 128]⟩
abbrev S2x128x128x2048 : Shape := ⟨4, ![2, 128, 128, 2048]⟩
abbrev S2x128x128x1024 : Shape := ⟨4, ![2, 128, 128, 1024]⟩
abbrev S2x128x1024x128 : Shape := ⟨4, ![2, 128, 1024, 128]⟩
abbrev S2x1x128x128x1024 : Shape := ⟨5, ![2, 1, 128, 128, 1024]⟩
abbrev S2x2x128x128x1024 : Shape := ⟨5, ![2, 2, 128, 128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S128x128, .f32⟩
  | .hbm, ⟨2, _⟩ => ⟨S128x128, .f32⟩
  | .hbm, ⟨3, _⟩ => ⟨S2x128x128x2048, .f32⟩
  | .hbm, ⟨4, _⟩ => ⟨S2x128x128x1024, .f32⟩
  | .hbm, ⟨5, _⟩ => ⟨S2x128x128x1024, .f32⟩
  | .hbm, ⟨6, _⟩ => ⟨S2x128x1024x128, .f32⟩
  | .hbm, ⟨7, _⟩ => ⟨S2x128x128x1024, .f32⟩
  | .hbm, ⟨8, _⟩ => ⟨S2x128x1024x128, .f32⟩
  | .hbm, ⟨9, _⟩ => ⟨S2x128x128x1024, .f32⟩
  | .hbm, ⟨10, _⟩ => ⟨S2x128x128x1024, .f32⟩
  | .hbm, ⟨11, _⟩ => ⟨S128x128, .f32⟩
  | .hbm, ⟨12, _⟩ => ⟨S2x128x1024x128, .f32⟩
  | .hbm, ⟨13, _⟩ => ⟨S2x128x128x1024, .f32⟩
  | .hbm, ⟨14, _⟩ => ⟨S2x128x1024x128, .f32⟩
  | .hbm, ⟨15, _⟩ => ⟨S2x128x128x1024, .f32⟩
  | .hbm, ⟨16, _⟩ => ⟨S2x128x128x1024, .f32⟩
  | .hbm, ⟨17, _⟩ => ⟨S2x1x128x128x1024, .f32⟩
  | .hbm, ⟨18, _⟩ => ⟨S2x1x128x128x1024, .f32⟩
  | .hbm, ⟨19, _⟩ => ⟨S2x2x128x128x1024, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== DftB.lean ====
abbrev S2x2x128x128x1024 : Shape := ⟨5, ![2, 2, 128, 128, 1024]⟩
abbrev S128x128x128 : Shape := ⟨3, ![128, 128, 128]⟩
abbrev S128x128x256 : Shape := ⟨3, ![128, 128, 256]⟩
abbrev S_ : Shape := ⟨0, ![]⟩
abbrev S2x128x128x1024 : Shape := ⟨4, ![2, 128, 128, 1024]⟩
abbrev S1x2x128x8x1024 : Shape := ⟨5, ![1, 2, 128, 8, 1024]⟩
abbrev S8x128x256 : Shape := ⟨3, ![8, 128, 256]⟩
abbrev S1x128x8x1024 : Shape := ⟨4, ![1, 128, 8, 1024]⟩
abbrev S1x1x128x1x1024 : Shape := ⟨5, ![1, 1, 128, 1, 1024]⟩
abbrev S128x1024 : Shape := ⟨2, ![128, 1024]⟩
abbrev S256x1024 : Shape := ⟨2, ![256, 1024]⟩
abbrev S1x128x256 : Shape := ⟨3, ![1, 128, 256]⟩
abbrev S128x256 : Shape := ⟨2, ![128, 256]⟩
abbrev S1x128x1x1024 : Shape := ⟨4, ![1, 128, 1, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x2x128x128x1024, .f32⟩
  | .hbm, ⟨1, _⟩ => ⟨S128x128x128, .f32⟩
  | .hbm, ⟨2, _⟩ => ⟨S128x128x128, .f32⟩
  | .hbm, ⟨3, _⟩ => ⟨S128x128x256, .f32⟩
  | .hbm, ⟨4, _⟩ => ⟨S_, .f32⟩
  | .hbm, ⟨5, _⟩ => ⟨S128x128x256, .f32⟩
  | .hbm, ⟨6, _⟩ => ⟨S128x128x256, .f32⟩
  | .hbm, ⟨7, _⟩ => ⟨S128x128x256, .bf16⟩
  | .hbm, ⟨8, _⟩ => ⟨S2x128x128x1024, .f32⟩
  | .local _ .vmem, ⟨0, _⟩ => ⟨S1x2x128x8x1024, .f32⟩
  | .local _ .vmem, ⟨1, _⟩ => ⟨S1x2x128x8x1024, .f32⟩
  | .local _ .vmem, ⟨2, _⟩ => ⟨S8x128x256, .bf16⟩
  | .local _ .vmem, ⟨3, _⟩ => ⟨S8x128x256, .bf16⟩
  | .local _ .vmem, ⟨4, _⟩ => ⟨S1x128x8x1024, .f32⟩
  | .local _ .vmem, ⟨5, _⟩ => ⟨S1x128x8x1024, .f32⟩
  | _, _ => ⟨S2x2x128x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftBRefIdeal.lean ====
abbrev S2x2x128x128x1024 : Shape := ⟨5, ![2, 2, 128, 128, 1024]⟩
abbrev S128x128x128 : Shape := ⟨3, ![128, 128, 128]⟩
abbrev S2x1x128x128x1024 : Shape := ⟨5, ![2, 1, 128, 128, 1024]⟩
abbrev S2x128x128x1024 : Shape := ⟨4, ![2, 128, 128, 1024]⟩
abbrev S128x2x1024x128 : Shape := ⟨4, ![128, 2, 1024, 128]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x2x128x128x1024, .f32⟩
  | .hbm, ⟨1, _⟩ => ⟨S128x128x128, .f32⟩
  | .hbm, ⟨2, _⟩ => ⟨S128x128x128, .f32⟩
  | .hbm, ⟨3, _⟩ => ⟨S2x1x128x128x1024, .f32⟩
  | .hbm, ⟨4, _⟩ => ⟨S2x128x128x1024, .f32⟩
  | .hbm, ⟨5, _⟩ => ⟨S128x2x1024x128, .f32⟩
  | .hbm, ⟨6, _⟩ => ⟨S2x128x128x1024, .f32⟩
  | .hbm, ⟨7, _⟩ => ⟨S2x1x128x128x1024, .f32⟩
  | .hbm, ⟨8, _⟩ => ⟨S2x128x128x1024, .f32⟩
  | .hbm, ⟨9, _⟩ => ⟨S128x2x1024x128, .f32⟩
  | .hbm, ⟨10, _⟩ => ⟨S2x128x128x1024, .f32⟩
  | .hbm, ⟨11, _⟩ => ⟨S2x128x128x1024, .f32⟩
  | .hbm, ⟨12, _⟩ => ⟨S_, .f32⟩
  | .hbm, ⟨13, _⟩ => ⟨S2x128x128x1024, .f32⟩
  | .hbm, ⟨14, _⟩ => ⟨S2x128x128x1024, .f32⟩
  | _, _ => ⟨S2x2x128x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Fold.lean ====
abbrev S2048x1024 : Shape := ⟨2, ![2048, 1024]⟩
abbrev S256x256 : Shape := ⟨2, ![256, 256]⟩
abbrev S256x512 : Shape := ⟨2, ![256, 512]⟩
abbrev S2048x256 : Shape := ⟨2, ![2048, 256]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x512, .f32⟩
  | .hbm, ⟨5, _⟩ => ⟨S2048x1024, .bf16⟩
  | .hbm, ⟨6, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoldRefIdeal.lean ====
abbrev S2048x1024 : Shape := ⟨2, ![2048, 1024]⟩
abbrev S256x256 : Shape := ⟨2, ![256, 256]⟩
abbrev S2048x4x256 : Shape := ⟨3, ![2048, 4, 256]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x256, .f32⟩
  | .hbm, ⟨2, _⟩ => ⟨S256x256, .f32⟩
  | .hbm, ⟨3, _⟩ => ⟨S2048x4x256, .f32⟩
  | .hbm, ⟨4, _⟩ => ⟨S2048x4x256, .f32⟩
  | .hbm, ⟨5, _⟩ => ⟨S2048x1024, .f32⟩
  | .hbm, ⟨6, _⟩ => ⟨S2048x1024, .bf16⟩
  | .hbm, ⟨7, _⟩ => ⟨S256x256, .f32⟩
  | .hbm, ⟨8, _⟩ => ⟨S2048x4x256, .f32⟩
  | .hbm, ⟨9, _⟩ => ⟨S2048x1024, .f32⟩
  | .hbm, ⟨10, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GlaBwd.lean ====
abbrev S2x16384x3072 : Shape := ⟨3, ![2, 16384, 3072]⟩
abbrev S2x16384x128 : Shape := ⟨3, ![2, 16384, 128]⟩
abbrev S16x512 : Shape := ⟨2, ![16, 512]⟩
abbrev S512 : Shape := ⟨1, ![512]⟩
abbrev S2x4x256x128 : Shape := ⟨4, ![2, 4, 256, 128]⟩
abbrev S_ : Shape := ⟨0, ![]⟩
abbrev S128x512 : Shape := ⟨2, ![128, 512]⟩
abbrev S1x512 : Shape := ⟨2, ![1, 512]⟩
abbrev S2x16384x1024 : Shape := ⟨3, ![2, 16384, 1024]⟩
abbrev S2x256x512 : Shape := ⟨3, ![2, 256, 512]⟩
abbrev S2x256x1024 : Shape := ⟨3, ![2, 256, 1024]⟩
abbrev S2x256x128 : Shape := ⟨3, ![2, 256, 128]⟩
abbrev S64x64 : Shape := ⟨2, ![64, 64]⟩
abbrev S256x256 : Shape := ⟨2, ![256, 256]⟩
abbrev S1x256x128 : Shape := ⟨3, ![1, 256, 128]⟩
abbrev S256x128 : Shape := ⟨2, ![256, 128]⟩
abbrev S256x512 : Shape := ⟨2, ![256, 512]⟩
abbrev S64x128 : Shape := ⟨2, ![64, 128]⟩
abbrev S1x128 : Shape := ⟨2, ![1, 128]⟩
abbrev S1x64x128 : Shape := ⟨3, ![1, 64, 128]⟩
abbrev S1x64x256 : Shape := ⟨3, ![1, 64, 256]⟩
abbrev S64x256 : Shape := ⟨2, ![64, 256]⟩
abbrev S1x1x256x128 : Shape := ⟨4, ![1, 1, 256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x16384x3072, .bf16⟩
  | .hbm, ⟨1, _⟩ => ⟨S2x16384x128, .f32⟩
  | .hbm, ⟨2, _⟩ => ⟨S16x512, .f32⟩
  | .hbm, ⟨3, _⟩ => ⟨S512, .f32⟩
  | .hbm, ⟨4, _⟩ => ⟨S2x4x256x128, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S2x16384x1024, .f32⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x1024, .bf16⟩
  | .local _ .vmem, ⟨5, _⟩ => ⟨S2x256x1024, .bf16⟩
  | .local _ .vmem, ⟨6, _⟩ => ⟨S2x256x128, .f32⟩
  | .local _ .vmem, ⟨7, _⟩ => ⟨S2x256x128, .f32⟩
  | .local _ .vmem, ⟨8, _⟩ => ⟨S128x512, .bf16⟩
  | .local _ .vmem, ⟨9, _⟩ => ⟨S1x512, .f32⟩
  | .local _ .vmem, ⟨10, _⟩ => ⟨S2x4x256x128, .f32⟩
  | .local _ .vmem, ⟨11, _⟩ => ⟨S2x256x1024, .f32⟩
  | .local _ .vmem, ⟨12, _⟩ => ⟨S2x256x1024, .f32⟩
  | .local _ .vmem, ⟨13, _⟩ => ⟨S2x4x256x128, .f32⟩
  | _, _ => ⟨S2x16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c1_i32 : BitVec 32 := 1#32
  let c0_i32_0 : BitVec 32 := 0#32
  ![c0_i32.toNat, v0.toNat, c1_i32.toNat]

def cc0_transform_2 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c1_i32 : BitVec 32 := 1#32
  let c0_i32_0 : BitVec 32 := 0#32
  ![c0_i32.toNat, v0.toNat, c1_i32.toNat]

def cc0_transform_3 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaFwd.lean ====
abbrev S2x16384x3072 : Shape := ⟨3, ![2, 16384, 3072]⟩
abbrev S2x16384x128 : Shape := ⟨3, ![2, 16384, 128]⟩
abbrev S16x512 : Shape := ⟨2, ![16, 512]⟩
abbrev S512 : Shape := ⟨1, ![512]⟩
abbrev S2x4x256x128 : Shape := ⟨4, ![2, 4, 256, 128]⟩
abbrev S2x16384x1024 : Shape := ⟨3, ![2, 16384, 1024]⟩
abbrev S256 : Shape := ⟨1, ![256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S2x256x512 : Shape := ⟨3, ![2, 256, 512]⟩
abbrev S2x256x1024 : Shape := ⟨3, ![2, 256, 1024]⟩
abbrev S2x256x128 : Shape := ⟨3, ![2, 256, 128]⟩
abbrev S64x64 : Shape := ⟨2, ![64, 64]⟩
abbrev S256x256 : Shape := ⟨2, ![256, 256]⟩
abbrev S1x256x128 : Shape := ⟨3, ![1, 256, 128]⟩
abbrev S256x128 : Shape := ⟨2, ![256, 128]⟩
abbrev S256x512 : Shape := ⟨2, ![256, 512]⟩
abbrev S64x128 : Shape := ⟨2, ![64, 128]⟩
abbrev S1x128 : Shape := ⟨2, ![1, 128]⟩
abbrev S1x64x128 : Shape := ⟨3, ![1, 64, 128]⟩
abbrev S1x64x256 : Shape := ⟨3, ![1, 64, 256]⟩
abbrev S64x256 : Shape := ⟨2, ![64, 256]⟩
abbrev S1x1x256x128 : Shape := ⟨4, ![1, 1, 256, 128]⟩
abbrev S64 : Shape := ⟨1, ![64]⟩
abbrev S64x1 : Shape := ⟨2, ![64, 1]⟩

abbrev nBuf : Space → Nat
  | .hbm => 14
  | .vmem => 19
  | .smem => 0
  | _ => 0

abbrev bufTy : (tb : Table) → Fin (tcTables nBuf tb) → BufTy
  | .hbm, ⟨0, _⟩ => ⟨S2x16384x3072, .bf16⟩
  | .hbm, ⟨1, _⟩ => ⟨S2x16384x128, .f32⟩
  | .hbm, ⟨2, _⟩ => ⟨S16x512, .f32⟩
  | .hbm, ⟨3, _⟩ => ⟨S512, .f32⟩
  | .hbm, ⟨4, _⟩ => ⟨S2x4x256x128, .f32⟩
  | .hbm, ⟨5, _⟩ => ⟨S2x16384x1024, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S128x512, .bf16⟩
  | .hbm, ⟨11, _⟩ => ⟨S1x512, .f32⟩
  | .hbm, ⟨12, _⟩ => ⟨S1x256, .f32⟩
  | .hbm, ⟨13, _⟩ => ⟨S2x16384x1024, .bf16⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x1024, .bf16⟩
  | .local _ .vmem, ⟨5, _⟩ => ⟨S2x256x1024, .bf16⟩
  | .local _ .vmem, ⟨6, _⟩ => ⟨S2x256x128, .f32⟩
  | .local _ .vmem, ⟨7, _⟩ => ⟨S2x256x128, .f32⟩
  | .local _ .vmem, ⟨8, _⟩ => ⟨S128x512, .bf16⟩
  | .local _ .vmem, ⟨9, _⟩ => ⟨S1x512, .f32⟩
  | .local _ .vmem, ⟨10, _⟩ => ⟨S2x4x256x128, .f32⟩
  | .local _ .vmem, ⟨11, _⟩ => ⟨S2x256x1024, .f32⟩
  | .local _ .vmem, ⟨12, _⟩ => ⟨S2x256x1024, .f32⟩
  | .local _ .vmem, ⟨13, _⟩ => ⟨S2x256x1024, .bf16⟩
  | .local _ .vmem, ⟨14, _⟩ => ⟨S2x256x1024, .bf16⟩
  | .local _ .vmem, ⟨15, _⟩ => ⟨S1x256, .f32⟩
  | .local _ .vmem, ⟨16, _⟩ => ⟨S2x256x1024, .bf16⟩
  | .local _ .vmem, ⟨17, _⟩ => ⟨S2x256x1024, .bf16⟩
  | .local _ .vmem, ⟨18, _⟩ => ⟨S2x4x256x128, .f32⟩
  | _, _ => ⟨S2x16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Proof.FfnInLayer.lean ====
module

public import proofs.«01_k».proof.Defs
public import proofs.«01_k».proof.Proof.Gen.FfnInIdeal.Value
public import proofs.«01_k».proof.Proof.Gen.FfnInRefIdeal.Read
public import proofs.«01_k».proof.Proof.Gen.FfnInRefIdeal
public import proofs.«01_k».proof.Proof.Gen.FfnIn
public import Idealize.ShloMosaic.Lib.Pipeline.ValueKit
public import Idealize.ShloMosaic.Lib.Pointwise

@[expose] public section

set_option maxRecDepth 16384

noncomputable section

namespace Cert.FfnInIdeal.Layer

open Cert.FfnInIdeal Cert.FfnInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One block of the gated pair of products: entry `(r, l)` of the block is `silu` of the first product times the second. -/
theorem block_apply (x0 : Vec Ideal S1x2048x2048 .bf16) (x1 x2 : Vec Ideal S1x2048x512 .bf16) (y : S1x2048x512.Idx) :
    out0_3 x0 x1 x2 y =
      (∑ k : Fin 2048, x0 (ix3 0 (y 1) k) * x1 (ix3 0 k (y 2)))
        * Ideal.logistic (∑ k : Fin 2048, x0 (ix3 0 (y 1) k) * x1 (ix3 0 k (y 2)))
        * (∑ k : Fin 2048, x0 (ix3 0 (y 1) k) * x2 (ix3 0 k (y 2))) := by
  unfold out0_3
  canon_tiles x h
  all_goals
    unfold_payloads
    pointwise
    blk_point []

/-- The layer's gated product of the whole arrays, index by index. -/
def G (a : FVec Ideal S2x16384x2048 .bf16) (w : FVec Ideal S2x2048x11264 .f32) : FVec Ideal S2x16384x5632 .bf16 :=
  fun i =>
    (∑ k : Fin 2048, a (ix3 (i 0) (i 1) k) * w (ix3 0 k ⟨(i 2).val, by have : (i 2).val < 5632 := (i 2).isLt; omega⟩))
      * Ideal.logistic (∑ k : Fin 2048, a (ix3 (i 0) (i 1) k) * w (ix3 0 k ⟨(i 2).val, by have : (i 2).val < 5632 := (i 2).isLt; omega⟩))
      * (∑ k : Fin 2048, a (ix3 (i 0) (i 1) k) * w (ix3 0 k ⟨5632 + (i 2).val, by have : (i 2).val < 5632 := (i 2).isLt; omega⟩))

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![0, 0, (grid0.coords t 2).val] :=
  (by decide +kernel : ∀ t : Fin grid0.N, _)
theorem index2 : ∀ t : Fin cfg0.N, win0_2.index t = ![0, 0, 11 + (grid0.coords t 2).val] :=
  (by decide +kernel : ∀ t : Fin grid0.N, _)
theorem index3 : ∀ t : Fin cfg0.N, win0_3.index t = ![(grid0.coords t 0).val, (grid0.coords t 1).val, (grid0.coords t 2).val] :=
  (by decide +kernel : ∀ t : Fin grid0.N, _)

/-- The result array after the run is the gated product of the argument arrays. -/
theorem final (c : Dev nD) : (dats m 0 c).arrAt 3 cfg0.N = G (m ((c : Thread nD τ).loc main_arg0)) (m ((c : Thread nD τ).loc main_arg1)) := by
  refine (dats m 0 c).arrAt_eq_of_covers 3 _ (by decide +kernel) fun t hf y => ?_
  blk_simp
  rw [after0_3, block_apply]
  unfold G
  blk_point [iblk, V_main_arg0, index0 t, index1 t, index2 t, index3 t]

open Cert.FfnInRefIdeal.Read in
/-- The reference's result is the same gated product. -/
theorem reference_eq (a : FVec Ideal S2x16384x2048 .bf16) (w : FVec Ideal S2x2048x11264 .f32) :
    val_main_v8 (F := Ideal) a w = G a w := by
  rw [← val_main_v8_eq]
  funext i
  unfold G
  pointwise
  rfl

/-- The kernel's program and the reference end with equal results. -/
theorem algebraic : Cert.algebraic_FfnInIdeal_FfnInRefIdeal := by
  intro m ρ m' ρ' _ hagree
  refine ⟨fun c => G (m ((c : Thread nD τ).loc main_arg0)) (m ((c : Thread nD τ).loc main_arg1)), ?_, ?_⟩
  · exact (θ_run Cert.FfnInIdeal.defs _ _).mono
      (fun _ h c => ⟨(h c).1.trans (final m c), (h c).2⟩)
      (Value.run_blocks (F := Ideal) m ρ)
  · refine (θ_run Cert.FfnInRefIdeal.defs _ _).mono (fun _ h c => ⟨(h c).1.trans ?_, (h c).2⟩)
      (Cert.FfnInRefIdeal.Value.run (F := Ideal) m' ρ')
    rw [(hagree c).1, (hagree c).2, Cert.FfnInRefIdeal.Read.val_main_v8_eq]
    exact reference_eq _ _

/-- The kernel's program and its idealized form call the same body at every grid point. -/
theorem bodies_eq : Cert.FfnIn.defs₀ (F := Bits) = Cert.FfnInIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_FfnIn := by
  intro m ρ _
  rw [show Cert.FfnIn.defs (F := Bits) = Cert.FfnInIdeal.defs (F := Bits) from
    congrArg (Pipeline.defs (Cert.FfnInIdeal.pcfgs (F := Bits))) bodies_eq]
  exact Cert.FfnInIdeal.Gen.frame (F := Bits) m ρ

/-- The same of the idealized program. -/
theorem frame_ideal : Cert.quiescent_FfnInIdeal := fun m ρ _ => Cert.FfnInIdeal.Gen.frame m ρ

/-- The same of the reference, which declares no semaphore. -/
theorem frame_reference : Cert.quiescent_FfnInRefIdeal := fun m ρ _ =>
  (θ_run Cert.FfnInRefIdeal.defs _ _).mono (fun r h => ⟨fun c => ⟨(h c).2.1, (h c).2.2⟩,
      Idealize.ShloMosaic.sem_eq_zero_of_no_sems (by decide) r.2⟩)
    (Cert.FfnInRefIdeal.Value.run (F := Ideal) m ρ)

end Cert.FfnInIdeal.Layer

end
-- ==== Proof.GluLayer.lean ====
module

public import proofs.«01_k».proof.Defs
public import proofs.«01_k».proof.Proof.Gen.GluIdeal.Value
public import proofs.«01_k».proof.Proof.Gen.GluRefIdeal.Read
public import proofs.«01_k».proof.Proof.Gen.GluRefIdeal
public import proofs.«01_k».proof.Proof.Gen.Glu
public import Idealize.ShloMosaic.Lib.Pipeline.ValueKit
public import Idealize.ShloMosaic.Lib.Pointwise

@[expose] public section

set_option maxRecDepth 16384

noncomputable section

namespace Cert.GluIdeal.Layer

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One block of the gated linear unit: the first product with its bias, times the logistic of the second with its bias. -/
theorem block_apply (x0 : Vec Ideal S1x2048x2048 .bf16) (x1 x2 : Vec Ideal S1x2048x512 .bf16) (x3 x4 : Vec Ideal S1x512 .f32) (y : S1x2048x512.Idx) :
    out0_5 x0 x1 x2 x3 x4 y =
      (∑ k : Fin 2048, x0 (ix3 0 (y 1) k) * x1 (ix3 0 k (y 2)) + x3 (ix2 0 (y 2)))
        * Ideal.logistic (∑ k : Fin 2048, x0 (ix3 0 (y 1) k) * x2 (ix3 0 k (y 2)) + x4 (ix2 0 (y 2))) := by
  unfold out0_5
  canon_tiles x h
  all_goals
    unfold_payloads
    pointwise
    blk_point []

/-- The layer's gated linear unit of the whole arrays, index by index. -/
def G (a : FVec Ideal S2x16384x2048 .bf16) (w : FVec Ideal S1x2048x4096 .f32) (b : FVec Ideal S1x4096 .f32) : FVec Ideal S2x16384x2048 .bf16 :=
  fun i =>
    (∑ k : Fin 2048, a (ix3 (i 0) (i 1) k) * w (ix3 0 k ⟨(i 2).val, by have : (i 2).val < 2048 := (i 2).isLt; omega⟩)
        + b (ix2 0 ⟨(i 2).val, by have : (i 2).val < 2048 := (i 2).isLt; omega⟩))
      * Ideal.logistic (∑ k : Fin 2048, a (ix3 (i 0) (i 1) k) * w (ix3 0 k ⟨2048 + (i 2).val, by have : (i 2).val < 2048 := (i 2).isLt; omega⟩)
        + b (ix2 0 ⟨2048 + (i 2).val, by have : (i 2).val < 2048 := (i 2).isLt; omega⟩))

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![0, 0, (grid0.coords t 2).val] :=
  (by decide +kernel : ∀ t : Fin grid0.N, _)
theorem index2 : ∀ t : Fin cfg0.N, win0_2.index t = ![0, 0, 4 + (grid0.coords t 2).val] :=
  (by decide +kernel : ∀ t : Fin grid0.N, _)
theorem index3 : ∀ t : Fin cfg0.N, win0_3.index t = ![0, (grid0.coords t 2).val] :=
  (by decide +kernel : ∀ t : Fin grid0.N, _)
theorem index4 : ∀ t : Fin cfg0.N, win0_4.index t = ![0, 4 + (grid0.coords t 2).val] :=
  (by decide +kernel : ∀ t : Fin grid0.N, _)
theorem index5 : ∀ t : Fin cfg0.N, win0_5.index t = ![(grid0.coords t 0).val, (grid0.coords t 1).val, (grid0.coords t 2).val] :=
  (by decide +kernel : ∀ t : Fin grid0.N, _)

/-- The result array after the run is the gated linear unit of the argument arrays. -/
theorem final (c : Dev nD) : (dats m 0 c).arrAt 5 cfg0.N
    = G (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, block_apply]
  unfold G
  blk_point [iblk, V_main_arg0, index0 t, index1 t, index2 t, index3 t, index4 t, index5 t]

open Cert.GluRefIdeal.Read in
/-- The reference's result is the same gated linear unit. -/
theorem reference_eq (a : FVec Ideal S2x16384x2048 .bf16) (w : FVec Ideal S1x2048x4096 .f32) (b : FVec Ideal S1x4096 .f32) :
    val_main_v16 (F := Ideal) a w b = G a w b := by
  rw [← val_main_v16_eq]
  funext i
  unfold G
  pointwise
  rfl

/-- The kernel's program and the reference end with equal results. -/
theorem algebraic : Cert.algebraic_GluIdeal_GluRefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.GluIdeal.defs _ _).mono
      (fun _ h c => ⟨(h c).1.trans (final m c), (h c).2⟩)
      (Value.run_blocks (F := Ideal) m ρ)
  · refine (θ_run Cert.GluRefIdeal.defs _ _).mono (fun _ h c => ⟨(h c).1.trans ?_, (h c).2⟩)
      (Cert.GluRefIdeal.Value.run (F := Ideal) m' ρ')
    rw [(hagree c).1, (hagree c).2.1, (hagree c).2.2, Cert.GluRefIdeal.Read.val_main_v16_eq]
    exact reference_eq _ _ _

/-- The kernel's program and its idealized form call the same body at every grid point. -/
theorem bodies_eq : Cert.Glu.defs₀ (F := Bits) = Cert.GluIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_Glu := by
  intro m ρ _
  rw [show Cert.Glu.defs (F := Bits) = Cert.GluIdeal.defs (F := Bits) from
    congrArg (Pipeline.defs (Cert.GluIdeal.pcfgs (F := Bits))) bodies_eq]
  exact Cert.GluIdeal.Gen.frame (F := Bits) m ρ

/-- The same of the idealized program. -/
theorem frame_ideal : Cert.quiescent_GluIdeal := fun m ρ _ => Cert.GluIdeal.Gen.frame m ρ

/-- The same of the reference, which declares no semaphore. -/
theorem frame_reference : Cert.quiescent_GluRefIdeal := fun m ρ _ =>
  (θ_run Cert.GluRefIdeal.defs _ _).mono (fun r h => ⟨fun c => ⟨(h c).2.1, (h c).2.2.1, (h c).2.2.2⟩,
      Idealize.ShloMosaic.sem_eq_zero_of_no_sems (by decide) r.2⟩)
    (Cert.GluRefIdeal.Value.run (F := Ideal) m ρ)

end Cert.GluIdeal.Layer

end
-- ==== Proof.FinalLayer.lean ====
module

public import proofs.«01_k».proof.Defs
public import proofs.«01_k».proof.Proof.Gen.FinalIdeal.Value
public import proofs.«01_k».proof.Proof.Gen.FinalRefIdeal.Read
public import proofs.«01_k».proof.Proof.Gen.FinalRefIdeal
public import proofs.«01_k».proof.Proof.Gen.Final
public import Idealize.ShloMosaic.Lib.Pipeline.ValueKit
public import Idealize.ShloMosaic.Lib.Pointwise

@[expose] public section

set_option maxRecDepth 16384

noncomputable section

namespace Cert.FinalIdeal.Layer

open Cert.FinalIdeal Cert.FinalIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A row `h` of 2048 entries scaled by the inverse root of its mean square (with the layer's epsilon) and by a weight. -/
def normed (h : Fin 2048 → EReal) (g : EReal) (l : Fin 2048) : EReal :=
  h l * Ideal.rsqrt (Ideal.div (∑ k : Fin 2048, h k * h k) (FloatOps.ofBits (F := Ideal) .f32 0x45000000#32)
    + FloatOps.ofBits (F := Ideal) .f32 0x358637BD#32) * g

/-- One block of the second half of the feed-forward layer: the residual plus the gated product, normalised over its row. -/
theorem block_apply (x0 : Vec Ideal S1x256x5632 .bf16) (x1 : Vec Ideal S1x5632x2048 .bf16) (x2 : Vec Ideal S1x256x2048 .f32)
    (x3 : Vec Ideal S1x1x2048 .f32) (x4 : Vec Ideal S1x2048 .f32) (y : S1x256x2048.Idx) :
    out0_5 x0 x1 x2 x3 x4 y =
      normed (fun l => x2 (ix3 0 (y 1) l) + x3 (ix3 0 0 l) * ∑ k : Fin 5632, x0 (ix3 0 (y 1) k) * x1 (ix3 0 k l))
        (x4 (ix2 0 (y 2))) (y 2) := by
  unfold out0_5
  canon_tiles x h
  all_goals
    unfold_payloads
    unfold normed
    pointwise
    blk_point []

/-- The second half of the feed-forward layer on the whole arrays, index by index. -/
def G (a : FVec Ideal S2x16384x5632 .bf16) (w : FVec Ideal S2x5632x2048 .f32) (r : FVec Ideal S2x16384x2048 .f32)
    (e : FVec Ideal S2x1x2048 .f32) (g : FVec Ideal S2048 .f32) : FVec Ideal S2x16384x2048 .f32 :=
  fun i => normed (fun l => r (ix3 (i 0) (i 1) l) + e (ix3 (i 0) 0 l) * ∑ k : Fin 5632, a (ix3 (i 0) (i 1) k) * w (ix3 1 k l)) (g (ix1 (i 2))) (i 2)

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![1, 0, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![(grid0.coords t 0).val, 0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, (grid0.coords t 1).val, 0] :=
  (by decide +kernel : ∀ t : Fin grid0.N, _)

/-- The result array after the run is that function of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, block_apply]
  unfold G
  refine congr (congr (congrArg normed (funext fun l => ?_)) ?_) ?_
  · blk_point [iblk, V_main_arg0, V_main_arg2, V_main_arg3, index0 t, index1 t, index2 t, index3 t, index4 t, index5 t]
  · blk_point [iblk, index4 t, index5 t]
  · refine Fin.ext ?_
    blk_simp [index5 t]

open Cert.FinalRefIdeal.Read in
/-- The reference's result is the same function of its arguments. -/
theorem reference_eq (a : FVec Ideal S2x16384x5632 .bf16) (w : FVec Ideal S2x5632x2048 .f32) (r : FVec Ideal S2x16384x2048 .f32)
    (e : FVec Ideal S2x1x2048 .f32) (g : FVec Ideal S2048 .f32) :
    val_main_v19 (F := Ideal) a w r e g = G a w r e g := by
  rw [← val_main_v19_eq]
  funext i
  unfold G normed
  pointwise

/-- The kernel's program and the reference end with equal results. -/
theorem algebraic : Cert.algebraic_FinalIdeal_FinalRefIdeal := by
  intro m ρ m' ρ' _ hagree
  refine ⟨fun c => G (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run Cert.FinalIdeal.defs _ _).mono
      (fun _ h c => ⟨(h c).1.trans (final m c), (h c).2⟩)
      (Value.run_blocks (F := Ideal) m ρ)
  · refine (θ_run Cert.FinalRefIdeal.defs _ _).mono (fun _ h c => ⟨(h c).1.trans ?_, (h c).2⟩)
      (Cert.FinalRefIdeal.Value.run (F := Ideal) m' ρ')
    rw [(hagree c).1, (hagree c).2.1, (hagree c).2.2.1, (hagree c).2.2.2.1, (hagree c).2.2.2.2, Cert.FinalRefIdeal.Read.val_main_v19_eq]
    exact reference_eq _ _ _ _ _

/-- The kernel's program and its idealized form call the same body at every grid point. -/
theorem bodies_eq : Cert.Final.defs₀ (F := Bits) = Cert.FinalIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_Final := by
  intro m ρ _
  rw [show Cert.Final.defs (F := Bits) = Cert.FinalIdeal.defs (F := Bits) from
    congrArg (Pipeline.defs (Cert.FinalIdeal.pcfgs (F := Bits))) bodies_eq]
  exact Cert.FinalIdeal.Gen.frame (F := Bits) m ρ

/-- The same of the idealized program. -/
theorem frame_ideal : Cert.quiescent_FinalIdeal := fun m ρ _ => Cert.FinalIdeal.Gen.frame m ρ

/-- The same of the reference, which declares no semaphore. -/
theorem frame_reference : Cert.quiescent_FinalRefIdeal := fun m ρ _ =>
  (θ_run Cert.FinalRefIdeal.defs _ _).mono (fun r h => ⟨fun c => ⟨(h c).2.1, (h c).2.2.1, (h c).2.2.2.1, (h c).2.2.2.2.1, (h c).2.2.2.2.2⟩,
      Idealize.ShloMosaic.sem_eq_zero_of_no_sems (by decide) r.2⟩)
    (Cert.FinalRefIdeal.Value.run (F := Ideal) m ρ)

end Cert.FinalIdeal.Layer

end
-- ==== Proof.MidLayer.lean ====
module

public import proofs.«01_k».proof.Defs
public import proofs.«01_k».proof.Proof.Gen.MidIdeal.Value
public import proofs.«01_k».proof.Proof.Gen.MidRefIdeal.Read
public import proofs.«01_k».proof.Proof.Gen.MidRefIdeal
public import proofs.«01_k».proof.Proof.Gen.Mid
public import Idealize.ShloMosaic.Lib.Pipeline.ValueKit
public import Idealize.ShloMosaic.Lib.Pointwise

@[expose] public section

set_option maxRecDepth 16384

noncomputable section

namespace Cert.MidIdeal.Layer

open Cert.MidIdeal Cert.MidIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A row `h` of 2048 entries scaled by the inverse root of its mean square (with the layer's epsilon), then multiplied by `a` and moved by `b`. -/
def modulated (h : Fin 2048 → EReal) (a b : EReal) (l : Fin 2048) : EReal :=
  h l * Ideal.rsqrt (Ideal.div (∑ k : Fin 2048, h k * h k) (FloatOps.ofBits (F := Ideal) .f32 0x45000000#32)
    + FloatOps.ofBits (F := Ideal) .f32 0x358637BD#32) * a + b

/-- One block of the residual stream: the residual plus the gated product. -/
theorem stream_block (x0 : Vec Ideal S1x256x5632 .bf16) (x1 : Vec Ideal S1x5632x2048 .bf16) (x2 : Vec Ideal S1x256x2048 .f32)
    (x3 x4 x5 : Vec Ideal S1x1x2048 .f32) (y : S1x256x2048.Idx) :
    out0_6 x0 x1 x2 x3 x4 x5 y =
      x2 (ix3 0 (y 1) (y 2)) + x3 (ix3 0 0 (y 2)) * ∑ k : Fin 5632, x0 (ix3 0 (y 1) k) * x1 (ix3 0 k (y 2)) := by
  unfold out0_6
  canon_tiles x h
  all_goals
    unfold_payloads
    pointwise
    blk_point []

/-- One block of the next sublayer's input: the residual stream normalised over its row and modulated. -/
theorem input_block (x0 : Vec Ideal S1x256x5632 .bf16) (x1 : Vec Ideal S1x5632x2048 .bf16) (x2 : Vec Ideal S1x256x2048 .f32)
    (x3 x4 x5 : Vec Ideal S1x1x2048 .f32) (y : S1x256x2048.Idx) :
    out0_7 x0 x1 x2 x3 x4 x5 y =
      modulated (fun l => x2 (ix3 0 (y 1) l) + x3 (ix3 0 0 l) * ∑ k : Fin 5632, x0 (ix3 0 (y 1) k) * x1 (ix3 0 k l))
        (x4 (ix3 0 0 (y 2))) (x5 (ix3 0 0 (y 2))) (y 2) := by
  unfold out0_7
  canon_tiles x h
  all_goals
    unfold_payloads
    unfold modulated
    pointwise
    blk_point []

/-- The residual stream after the first feed-forward sublayer, on the whole arrays. -/
def H (a : FVec Ideal S2x16384x5632 .bf16) (w : FVec Ideal S2x5632x2048 .f32) (r : FVec Ideal S2x16384x2048 .f32)
    (e : FVec Ideal S2x1x2048 .f32) : FVec Ideal S2x16384x2048 .f32 :=
  fun i => r (ix3 (i 0) (i 1) (i 2)) + e (ix3 (i 0) 0 (i 2)) * ∑ k : Fin 5632, a (ix3 (i 0) (i 1) k) * w (ix3 0 k (i 2))

/-- The next sublayer's input: each row of a stream normalised and modulated. -/
def N (h : FVec Ideal S2x16384x2048 .f32) (g : FVec Ideal S2048 .f32) (s q : FVec Ideal S2x1x2048 .f32) :
    FVec Ideal S2x16384x2048 .bf16 :=
  fun i => modulated (fun l => h (ix3 (i 0) (i 1) l))
    (g (ix1 (i 2)) * (FloatOps.ofBits (F := Ideal) .f32 0x3F800000#32 + q (ix3 (i 0) 0 (i 2)))) (s (ix3 (i 0) 0 (i 2))) (i 2)

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![0, 0, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![(grid0.coords t 0).val, 0, 0] :=
  (by decide +kernel : ∀ t : Fin grid0.N, _)
theorem index4 : ∀ t : Fin cfg0.N, win0_4.index t = ![(grid0.coords t 0).val, 0, 0] :=
  (by decide +kernel : ∀ t : Fin grid0.N, _)
theorem index5 : ∀ t : Fin cfg0.N, win0_5.index t = ![(grid0.coords t 0).val, 0, 0] :=
  (by decide +kernel : ∀ t : Fin grid0.N, _)
theorem index6 : ∀ t : Fin cfg0.N, win0_6.index t = ![(grid0.coords t 0).val, (grid0.coords t 1).val, 0] :=
  (by decide +kernel : ∀ t : Fin grid0.N, _)
theorem index7 : ∀ t : Fin cfg0.N, win0_7.index t = ![(grid0.coords t 0).val, (grid0.coords t 1).val, 0] :=
  (by decide +kernel : ∀ t : Fin grid0.N, _)

/-- The stream of a starting memory, on one device. -/
abbrev Hm (c : Dev nD) : FVec Ideal S2x16384x2048 .f32 :=
  H (m ((c : Thread nD τ).loc main_arg0)) (m ((c : Thread nD τ).loc main_arg1)) (m ((c : Thread nD τ).loc main_arg2))
    (m ((c : Thread nD τ).loc main_arg3))

/-- The next input of a starting memory, on one device. -/
abbrev Nm (c : Dev nD) : FVec Ideal S2x16384x2048 .bf16 :=
  N (Hm m c) (m ((c : Thread nD τ).loc main_arg4)) (m ((c : Thread nD τ).loc main_arg5)) (m ((c : Thread nD τ).loc main_arg6))

/-- The stream's array after the run is that function of the argument arrays. -/
theorem stream (c : Dev nD) : (dats m 0 c).arrAt 6 cfg0.N = Hm m c := by
  refine (dats m 0 c).arrAt_eq_of_covers 6 _ (by decide +kernel) fun t hf y => ?_
  blk_simp
  rw [after0_6, stream_block]
  unfold Hm H
  blk_point [iblk, V_main_arg0, V_main_arg2, V_main_arg3, index0 t, index1 t, index2 t, index3 t, index6 t]

/-- So is the next input's array. -/
theorem input (c : Dev nD) : (dats m 0 c).arrAt 7 cfg0.N = Nm m c := by
  refine (dats m 0 c).arrAt_eq_of_covers 7 _ (by decide +kernel) fun t hf y => ?_
  blk_simp
  rw [after0_7, input_block]
  unfold Nm N
  refine congr (congr (congr (congrArg modulated (funext fun l => ?_)) ?_) ?_) ?_
  · unfold Hm H
    blk_point [iblk, V_main_arg0, V_main_arg2, V_main_arg3, index0 t, index1 t, index2 t, index3 t, index7 t]
  · blk_simp [iblk]
    entry_read
    pointwise
    blk_point [index4 t, index7 t]
  · blk_ext [iblk, V_main_arg5, index5 t, index7 t]
  · refine Fin.ext ?_
    blk_simp [index7 t]

open Cert.MidRefIdeal.Read in
/-- The reference's stream is the same function of its arguments. -/
theorem reference_stream (a : FVec Ideal S2x16384x5632 .bf16) (w : FVec Ideal S2x5632x2048 .f32) (r : FVec Ideal S2x16384x2048 .f32)
    (e : FVec Ideal S2x1x2048 .f32) : val_main_v6 (F := Ideal) a w r e = H a w r e := by
  rw [← val_main_v6_eq]
  funext i
  unfold H
  pointwise

open Cert.MidRefIdeal.Read in
/-- So is its next input: the weight and the scale may be multiplied first. -/
theorem reference_input (a : FVec Ideal S2x16384x5632 .bf16) (w : FVec Ideal S2x5632x2048 .f32) (r : FVec Ideal S2x16384x2048 .f32)
    (e : FVec Ideal S2x1x2048 .f32) (g : FVec Ideal S2048 .f32) (s q : FVec Ideal S2x1x2048 .f32) :
    val_main_v26 (F := Ideal) a w r e g s q = N (H a w r e) g s q := by
  rw [← val_main_v26_eq]
  funext i
  unfold N modulated H
  rw [← mul_assoc]
  pointwise

/-- The kernel's program and the reference end with equal results. -/
theorem algebraic : Cert.algebraic_MidIdeal_MidRefIdeal := by
  intro m ρ m' ρ' _ hagree
  refine ⟨fun c => Hm m c, fun c => Nm m c, ?_, ?_⟩
  · exact (θ_run Cert.MidIdeal.defs _ _).mono
      (fun _ h c => ⟨(h c).1.trans (stream m c), (h c).2.1.trans (input m c), (h c).2.2⟩)
      (Value.run_blocks (F := Ideal) m ρ)
  · refine (θ_run Cert.MidRefIdeal.defs _ _).mono (fun _ h c => ⟨(h c).1.trans ?_, (h c).2.1.trans ?_, (h c).2.2⟩)
      (Cert.MidRefIdeal.Value.run (F := Ideal) m' ρ')
    · rw [(hagree c).1, (hagree c).2.1, (hagree c).2.2.1, (hagree c).2.2.2.1, Cert.MidRefIdeal.Read.val_main_v6_eq]
      exact reference_stream _ _ _ _
    · rw [(hagree c).1, (hagree c).2.1, (hagree c).2.2.1, (hagree c).2.2.2.1, (hagree c).2.2.2.2.1, (hagree c).2.2.2.2.2.1,
        (hagree c).2.2.2.2.2.2, Cert.MidRefIdeal.Read.val_main_v26_eq]
      exact reference_input _ _ _ _ _ _ _

/-- The kernel's program and its idealized form call the same body at every grid point. -/
theorem bodies_eq : Cert.Mid.defs₀ (F := Bits) = Cert.MidIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_Mid := by
  intro m ρ _
  rw [show Cert.Mid.defs (F := Bits) = Cert.MidIdeal.defs (F := Bits) from
    congrArg (Pipeline.defs (Cert.MidIdeal.pcfgs (F := Bits))) bodies_eq]
  exact Cert.MidIdeal.Gen.frame (F := Bits) m ρ

/-- The same of the idealized program. -/
theorem frame_ideal : Cert.quiescent_MidIdeal := fun m ρ _ => Cert.MidIdeal.Gen.frame m ρ

/-- The same of the reference, which declares no semaphore. -/
theorem frame_reference : Cert.quiescent_MidRefIdeal := fun m ρ _ =>
  (θ_run Cert.MidRefIdeal.defs _ _).mono (fun r h => ⟨fun c => (h c).2.2,
      Idealize.ShloMosaic.sem_eq_zero_of_no_sems (by decide) r.2⟩)
    (Cert.MidRefIdeal.Value.run (F := Ideal) m ρ)

end Cert.MidIdeal.Layer

end
-- ==== Proof.MixOutLayer.lean ====
module

public import proofs.«01_k».proof.Defs
public import proofs.«01_k».proof.Proof.Gen.MixOutIdeal.Value
public import proofs.«01_k».proof.Proof.Gen.MixOutRefIdeal.Read
public import proofs.«01_k».proof.Proof.Gen.MixOutRefIdeal
public import proofs.«01_k».proof.Proof.Gen.MixOut
public import proofs.«01_k».proof.Proof.MidLayer
public import Idealize.ShloMosaic.Lib.Pipeline.ValueKit
public import Idealize.ShloMosaic.Lib.Pointwise

@[expose] public section

set_option maxRecDepth 16384

noncomputable section

namespace Cert.MixOutIdeal.Layer

open Cert.MixOutIdeal Cert.MixOutIdeal.Gen Idealize.ShloMosaic Idealize.ShloMosaic.TcCoe Idealize.SL.Sem
open Idealize.ShloMosaic.Pipeline (Dat)
open Cert.MidIdeal.Layer (modulated)

variable (m : (ℓ : Loc nD τ sig) → Buf (Elt Ideal) ℓ) (ρ : Dev nD → PrngReg)

/-- The position's row: its first half from the table of grid rows, its second half from the table of grid columns. -/
def place (a b : Fin 1024 → EReal) (l : Fin 2048) : EReal :=
  if h : l.val < 1024 then a ⟨l.val, h⟩ else b ⟨l.val - 1024, by have := l.isLt; omega⟩

theorem place_left (a b : Fin 1024 → EReal) (k : Fin 1024) (h : k.val < 2048) : place a b ⟨k.val, h⟩ = a k :=
  dif_pos k.isLt

theorem place_right (a b : Fin 1024 → EReal) (k : Fin 1024) (h : 1024 + k.val < 2048) : place a b ⟨1024 + k.val, h⟩ = b k := by
  refine (dif_neg (Nat.not_lt.2 (Nat.le_add_right _ _))).trans (congrArg b (Fin.ext ?_))
  exact Nat.add_sub_cancel_left _ _

/-- A sum over a row, half by half. -/
theorem sum_halves (f : Fin 2048 → EReal) : ∑ k, f k = ∑ k : Fin 1024, f ⟨k.val, by have := k.isLt; omega⟩
    + ∑ k : Fin 1024, f ⟨1024 + k.val, by have := k.isLt; omega⟩ :=
  Fin.sum_univ_add (a := 1024) (b := 1024) f

/-- A modulated row is known by its entry, its sum of squares, and its two vectors' entries. -/
theorem modulated_of {x s a b a' b' : EReal} {r : Fin 2048 → EReal} {l : Fin 2048} (h0 : x = r l) (hs : s = ∑ k, r k * r k)
    (ha : a = a') (hb : b = b') :
    x * Ideal.rsqrt (Ideal.div s (FloatOps.ofBits (F := Ideal) .f32 0x45000000#32)
      + FloatOps.ofBits (F := Ideal) .f32 0x358637BD#32) * a + b = modulated r a' b' l := by
  subst h0 hs ha hb
  rfl

/-- Row `s` of one block of the residual stream. -/
def row (x0 : Vec Ideal S1x512x1024 .bf16) (x1 : Vec Ideal S1x512x1024 .f32) (x2 : Vec Ideal S2048x2048 .bf16)
    (x3 : Vec Ideal S1x512x2048 .f32) (x4 : Vec Ideal S8x1024 .f32) (x5 : Vec Ideal S64x1024 .f32)
    (x6 : Vec Ideal S1x1x2048 .f32) (s : Fin 512) (l : Fin 2048) : EReal :=
  (x3 (ix3 0 s l) + place (fun k => x4 (ix2 ⟨s.val / 64, by have := s.isLt; omega⟩ k))
      (fun k => x5 (ix2 ⟨s.val % 64, Nat.mod_lt _ (by decide)⟩ k)) l)
    + x6 (ix3 0 0 l) * (∑ k : Fin 1024, x0 (ix3 0 s k) * x2 (ix2 ⟨k.val, by have := k.isLt; omega⟩ l)
      + ∑ k : Fin 1024, x1 (ix3 0 s k) * x2 (ix2 ⟨1024 + k.val, by have := k.isLt; omega⟩ l))

/-- One block of the residual stream: the input with its position, plus the gated projection of both mixers. -/
theorem stream_block (x0 : Vec Ideal S1x512x1024 .bf16) (x1 : Vec Ideal S1x512x1024 .f32) (x2 : Vec Ideal S2048x2048 .bf16)
    (x3 : Vec Ideal S1x512x2048 .f32) (x4 : Vec Ideal S8x1024 .f32) (x5 : Vec Ideal S64x1024 .f32)
    (x6 x7 x8 : Vec Ideal S1x1x2048 .f32) (y : S1x512x2048.Idx) :
    out0_9 x0 x1 x2 x3 x4 x5 x6 x7 x8 y = row x0 x1 x2 x3 x4 x5 x6 (y 1) (y 2) := by
  unfold out0_9
  canon_tiles x h
  all_goals
    unfold_payloads
    pointwise
    unfold row place
    refine congr (congrArg _ (congr (congrArg _ ?_) ?_)) ?_
    · blk_point []
    · split <;> split <;> first | (blk_ext []; done) | (exfalso; omega)
    · blk_point []

/-- One block of the next sublayer's input. -/
theorem input_block (x0 : Vec Ideal S1x512x1024 .bf16) (x1 : Vec Ideal S1x512x1024 .f32) (x2 : Vec Ideal S2048x2048 .bf16)
    (x3 : Vec Ideal S1x512x2048 .f32) (x4 : Vec Ideal S8x1024 .f32) (x5 : Vec Ideal S64x1024 .f32)
    (x6 x7 x8 : Vec Ideal S1x1x2048 .f32) (y : S1x512x2048.Idx) :
    out0_10 x0 x1 x2 x3 x4 x5 x6 x7 x8 y =
      modulated (row x0 x1 x2 x3 x4 x5 x6 (y 1)) (x7 (ix3 0 0 (y 2))) (x8 (ix3 0 0 (y 2))) (y 2) := by
  unfold out0_10
  canon_tiles x h
  all_goals
    unfold_payloads
    pointwise
    refine modulated_of (r := row x0 x1 x2 x3 x4 x5 x6 (y 1)) ?_ ((congr (congrArg _ (Finset.sum_congr rfl fun k _ => congr (congrArg _ ?_) ?_))
      (Finset.sum_congr rfl fun k _ => congr (congrArg _ ?_) ?_)).trans (sum_halves (fun k => row x0 x1 x2 x3 x4 x5 x6 (y 1) k * row x0 x1 x2 x3 x4 x5 x6 (y 1) k)).symm) ?_ ?_
    iterate 5
      · unfold row
        refine congr (congrArg _ (congr (congrArg _ ?_) ?_)) ?_
        · blk_point []
        · first
            | (rw [place_left]; blk_ext []; done)
            | (rw [place_right]; blk_ext []; done)
            | (unfold place; split <;> split <;> first | (blk_ext []; done) | (exfalso; omega))
        · blk_point []
    · blk_point []
    · blk_point []

/-- The residual stream after the mixer, on the whole arrays. -/
def H (o : FVec Ideal S2x16384x1024 .bf16) (f : FVec Ideal S2x16384x1024 .f32) (w : FVec Ideal S1x2048x2048 .f32)
    (x : FVec Ideal S2x16384x2048 .f32) (p : FVec Ideal S256x1024 .f32) (q : FVec Ideal S64x1024 .f32)
    (e : FVec Ideal S2x1x2048 .f32) : FVec Ideal S2x16384x2048 .f32 :=
  fun i => (x (ix3 (i 0) (i 1) (i 2)) + place (fun k => p (ix2 ⟨(i 1).val / 64, by have := (i 1).isLt; simp at this; omega⟩ k))
      (fun k => q (ix2 ⟨(i 1).val % 64, Nat.mod_lt _ (by decide)⟩ k)) (i 2))
    + e (ix3 (i 0) 0 (i 2)) * (∑ k : Fin 1024, o (ix3 (i 0) (i 1) k) * w (ix3 0 ⟨k.val, by have := k.isLt; omega⟩ (i 2))
      + ∑ k : Fin 1024, f (ix3 (i 0) (i 1) k) * w (ix3 0 ⟨1024 + k.val, by have := k.isLt; omega⟩ (i 2)))

/-- The next sublayer's input: each row of a stream normalised and modulated. -/
def N (h : FVec Ideal S2x16384x2048 .f32) (g : FVec Ideal S2048 .f32) (s q : FVec Ideal S2x1x2048 .f32) :
    FVec Ideal S2x16384x2048 .bf16 :=
  fun i => modulated (fun l => h (ix3 (i 0) (i 1) l))
    (g (ix1 (i 2)) * (FloatOps.ofBits (F := Ideal) .f32 0x3F800000#32 + q (ix3 (i 0) 0 (i 2)))) (s (ix3 (i 0) 0 (i 2))) (i 2)

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![(grid0.coords t 0).val, (grid0.coords t 1).val, 0] :=
  (by decide +kernel : ∀ t : Fin grid0.N, _)
theorem index4 : ∀ t : Fin cfg0.N, win0_4.index t = ![(grid0.coords t 1).val, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![(grid0.coords t 0).val, 0, 0] :=
  (by decide +kernel : ∀ t : Fin grid0.N, _)
theorem index7 : ∀ t : Fin cfg0.N, win0_7.index t = ![(grid0.coords t 0).val, 0, 0] :=
  (by decide +kernel : ∀ t : Fin grid0.N, _)
theorem index8 : ∀ t : Fin cfg0.N, win0_8.index t = ![(grid0.coords t 0).val, 0, 0] :=
  (by decide +kernel : ∀ t : Fin grid0.N, _)
theorem index9 : ∀ t : Fin cfg0.N, win0_9.index t = ![(grid0.coords t 0).val, (grid0.coords t 1).val, 0] :=
  (by decide +kernel : ∀ t : Fin grid0.N, _)
theorem index10 : ∀ t : Fin cfg0.N, win0_10.index t = ![(grid0.coords t 0).val, (grid0.coords t 1).val, 0] :=
  (by decide +kernel : ∀ t : Fin grid0.N, _)

/-- The stream of a starting memory, on one device. -/
abbrev Hm (c : Dev nD) : FVec Ideal S2x16384x2048 .f32 :=
  H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The next input of a starting memory, on one device. -/
abbrev Nm (c : Dev nD) : FVec Ideal S2x16384x2048 .bf16 :=
  N (Hm m c) (m ((c : Thread nD τ).loc main_arg7)) (m ((c : Thread nD τ).loc main_arg8)) (m ((c : Thread nD τ).loc main_arg9))

/-- Row `s` of the block at a grid point is the row of the whole stream where the block lies. -/
theorem row_eq (c : Dev nD) (t : Fin cfg0.N) (s : Fin 512) (l : Fin 2048) (i : S2x16384x2048.Idx)
    (h0 : (i 0).val = (grid0.coords t 0).val) (h1 : (i 1).val = (grid0.coords t 1).val * 512 + s.val) (h2 : i 2 = l) :
    row (iblk m c 0 t) (iblk m c 1 t) (iblk m c 2 t) (iblk m c 3 t) (iblk m c 4 t) (iblk m c 5 t) (iblk m c 6 t) s l = Hm m c i := by
  subst h2
  unfold row Hm H
  refine congr (congrArg _ (congr (congrArg _ ?_) ?_)) ?_
  · blk_point [iblk, V_main_arg3, index3 t]
  · refine congr (congr (congrArg place (funext fun k => ?_)) (funext fun k => ?_)) rfl
    · blk_ext [iblk, V_main_arg4, index4 t]
    · blk_ext [iblk, V_main_arg5, index5 t]
  · blk_point [iblk, V_main_arg0, V_main_arg1, V_main_arg6, index0 t, index1 t, index2 t, index6 t]

/-- The stream's array after the run is that function of the argument arrays. -/
theorem stream (c : Dev nD) : (dats m 0 c).arrAt 9 cfg0.N = Hm m c := by
  refine (dats m 0 c).arrAt_eq_of_covers 9 _ (by decide +kernel) fun t hf y => ?_
  blk_simp
  rw [after0_9, stream_block]
  refine row_eq m c t _ _ _ ?_ ?_ (Fin.ext ?_)
  all_goals
    blk_simp [index9 t]
    try (idx_bounds y; omega)

/-- So is the next input's array. -/
theorem input (c : Dev nD) : (dats m 0 c).arrAt 10 cfg0.N = Nm m c := by
  refine (dats m 0 c).arrAt_eq_of_covers 10 _ (by decide +kernel) fun t hf y => ?_
  blk_simp
  rw [after0_10, input_block]
  unfold Nm N
  refine congr (congr (congr (congrArg modulated (funext fun l => ?_)) ?_) ?_) ?_
  · refine row_eq m c t _ _ _ ?_ ?_ (Fin.ext ?_)
    all_goals
      blk_simp [index10 t]
      try (idx_bounds y; omega)
  · blk_simp [iblk]
    entry_read
    pointwise
    blk_point [index7 t, index10 t]
  · blk_ext [iblk, V_main_arg8, index8 t, index10 t]
  · refine Fin.ext ?_
    blk_simp [index10 t]

open Cert.MixOutRefIdeal.Read in
/-- The reference's stream is the same function of its arguments. -/
theorem reference_stream (o : FVec Ideal S2x16384x1024 .bf16) (f : FVec Ideal S2x16384x1024 .f32) (w : FVec Ideal S1x2048x2048 .f32)
    (x : FVec Ideal S2x16384x2048 .f32) (p : FVec Ideal S256x1024 .f32) (q : FVec Ideal S64x1024 .f32)
    (e : FVec Ideal S2x1x2048 .f32) : val_main_v15 (F := Ideal) o f w x p q e = H o f w x p q e := by
  rw [← val_main_v15_eq]
  funext i
  unfold H
  pointwise
  rfl

open Cert.MixOutRefIdeal.Read in
/-- So is its next input: the weight and the scale may be multiplied first. -/
theorem reference_input (o : FVec Ideal S2x16384x1024 .bf16) (f : FVec Ideal S2x16384x1024 .f32) (w : FVec Ideal S1x2048x2048 .f32)
    (x : FVec Ideal S2x16384x2048 .f32) (p : FVec Ideal S256x1024 .f32) (q : FVec Ideal S64x1024 .f32)
    (e : FVec Ideal S2x1x2048 .f32) (g : FVec Ideal S2048 .f32) (s r : FVec Ideal S2x1x2048 .f32) :
    val_main_v35 (F := Ideal) o f w x p q e g s r = N (H o f w x p q e) g s r := by
  funext i
  have hrow : ∀ j, val_main_v15 (F := Ideal) o f w x p q e j = H o f w x p q e j :=
    fun j => congrFun (reference_stream o f w x p q e) j
  unfold N modulated
  rw [← mul_assoc]
  simp only [val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, hrow,
    val_main_cst_apply, val_main_cst_0_apply, val_main_cst_1_apply, val_main_cst_2_apply]
  have row_index : ∀ k, idx_main_v17 (idx_main_v18 (idx_main_v24 i)) k = ix3 (i 0) (i 1) k := fun k => by idx_ext
  have weight_index : idx_main_v26 (idx_main_v27 i) = ix1 (i 2) := by idx_ext
  have scale_index : idx_main_v31 i = ix3 (i 0) 0 (i 2) := by idx_ext
  have shift_index : idx_main_v33 i = ix3 (i 0) 0 (i 2) := by idx_ext
  simp only [row_index, weight_index, scale_index, shift_index]
  pointwise

/-- The kernel's program and the reference end with equal results. -/
theorem algebraic : Cert.algebraic_MixOutIdeal_MixOutRefIdeal := by
  intro m ρ m' ρ' _ hagree
  refine ⟨fun c => Hm m c, fun c => Nm m c, ?_, ?_⟩
  · exact (θ_run Cert.MixOutIdeal.defs _ _).mono
      (fun _ h c => ⟨(h c).1.trans (stream m c), (h c).2.1.trans (input m c), (h c).2.2⟩)
      (Value.run_blocks (F := Ideal) m ρ)
  · refine (θ_run Cert.MixOutRefIdeal.defs _ _).mono (fun _ h c => ⟨(h c).1.trans ?_, (h c).2.1.trans ?_, (h c).2.2⟩)
      (Cert.MixOutRefIdeal.Value.run (F := Ideal) m' ρ')
    · rw [(hagree c).1, (hagree c).2.1, (hagree c).2.2.1, (hagree c).2.2.2.1, (hagree c).2.2.2.2.1, (hagree c).2.2.2.2.2.1, (hagree c).2.2.2.2.2.2.1, Cert.MixOutRefIdeal.Read.val_main_v15_eq]
      exact reference_stream _ _ _ _ _ _ _
    · rw [Cert.MixOutRefIdeal.Read.val_main_v35_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact reference_input _ _ _ _ _ _ _ _ _ _

/-- The kernel's program and its idealized form call the same body at every grid point. -/
theorem bodies_eq : Cert.MixOut.defs₀ (F := Bits) = Cert.MixOutIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_MixOut := by
  intro m ρ _
  rw [show Cert.MixOut.defs (F := Bits) = Cert.MixOutIdeal.defs (F := Bits) from
    congrArg (Pipeline.defs (Cert.MixOutIdeal.pcfgs (F := Bits))) bodies_eq]
  exact Cert.MixOutIdeal.Gen.frame (F := Bits) m ρ

/-- The same of the idealized program. -/
theorem frame_ideal : Cert.quiescent_MixOutIdeal := fun m ρ _ => Cert.MixOutIdeal.Gen.frame m ρ

/-- The same of the reference, which declares no semaphore. -/
theorem frame_reference : Cert.quiescent_MixOutRefIdeal := fun m ρ _ =>
  (θ_run Cert.MixOutRefIdeal.defs _ _).mono (fun r h => ⟨fun c => (h c).2.2,
      Idealize.ShloMosaic.sem_eq_zero_of_no_sems (by decide) r.2⟩)
    (Cert.MixOutRefIdeal.Value.run (F := Ideal) m ρ)

end Cert.MixOutIdeal.Layer

end
-- ==== Proof.Gate.lean ====
/- Facts about the decay gate of the gated linear attention and about sums with it, used by the calls that take the gate. -/
module

public import Idealize.ShloMosaic.Lib.Pipeline.ValueKit
public import Idealize.ShloMosaic.Lib.Pointwise
public import Idealize.ShloMosaic.Lib.IdealHost

@[expose] public section

noncomputable section

namespace Cert.Gate

open Idealize.ShloMosaic

/-- The log decay of a gate logit: the logarithm of its sigmoid over sixteen, as min(t, 0) - log(1 + exp(-|t|)). -/
def gate (t : EReal) : EReal :=
  (min t 0 - Ideal.log1p (Ideal.exp (0 - max t (-t)))) * Ideal.ofBits .f32 0x3D800000#32

theorem sixteenth : Ideal.ofBits .f32 0x3D800000#32 = (((1 : ℝ) / 16 : ℝ) : EReal) := by
  simp [Ideal.ofBits, Ideal.ieee]
  norm_num
  rw [← EReal.coe_mul]
  norm_num

theorem sixteen : Ideal.ofBits .f32 0x41800000#32 = ((16 : ℝ) : EReal) := by
  simp [Ideal.ofBits, Ideal.ieee]
  norm_num
  rw [← EReal.coe_mul]
  norm_num

/-- The logarithm of one plus an exponential is not negative. -/
theorem log1p_exp_nonneg (u : EReal) : 0 ≤ Ideal.log1p (Ideal.exp u) := by
  induction u with
  | bot =>
    show 0 ≤ Ideal.log (1 + 0)
    rw [add_zero]
    show (0 : EReal) ≤ if (1 : ℝ) ≤ 0 then ⊥ else ((Real.log 1 : ℝ) : EReal)
    rw [if_neg (by norm_num), Real.log_one]
    exact le_rfl
  | top =>
    show 0 ≤ Ideal.log (1 + ⊤)
    rw [EReal.add_top_of_ne_bot (by exact EReal.coe_ne_bot 1)]
    exact le_top
  | coe r =>
    have h : (1 : EReal) + ((Real.exp r : ℝ) : EReal) = ((1 + Real.exp r : ℝ) : EReal) := by push_cast; rfl
    have hp := Real.exp_pos r
    show 0 ≤ Ideal.log (1 + ((Real.exp r : ℝ) : EReal))
    rw [h]
    show (0 : EReal) ≤ if 1 + Real.exp r ≤ 0 then ⊥ else ((Real.log (1 + Real.exp r) : ℝ) : EReal)
    rw [if_neg (by linarith)]
    exact_mod_cast Real.log_nonneg (by linarith)

/-- A log decay is never plus infinity. -/
theorem gate_ne_top (t : EReal) : gate t ≠ ⊤ := by
  have hl := log1p_exp_nonneg (0 - max t (-t))
  have h : min t 0 - Ideal.log1p (Ideal.exp (0 - max t (-t))) ≤ 0 := by
    rw [sub_eq_add_neg]
    calc min t 0 + -Ideal.log1p (Ideal.exp (0 - max t (-t))) ≤ 0 + 0 :=
          add_le_add (min_le_right _ _) (by rw [EReal.neg_le]; simpa using hl)
      _ = 0 := by simp
  unfold gate
  rw [sixteenth]
  generalize min t 0 - Ideal.log1p (Ideal.exp (0 - max t (-t))) = x at h ⊢
  induction x with
  | bot => rw [EReal.bot_mul_coe_of_pos (by norm_num)]; exact bot_ne_top
  | top => simp at h
  | coe r => rw [← EReal.coe_mul]; exact EReal.coe_ne_top _

/-- The host's form of the log decay, with its test for a value that is not a number, is the same value. -/
theorem host_gate (t : EReal) :
    Ideal.div (-(max (-t) 0 + Ideal.log1p (Ideal.exp (-(max (-t) (- -t)))))) (Ideal.ofBits .f32 0x41800000#32) = gate t := by
  have hl := log1p_exp_nonneg (0 - max t (-t))
  have e : -(max (-t) (- -t)) = 0 - max t (-t) := by rw [neg_neg, max_comm, zero_sub]
  have hm : (0 : EReal) ≤ max (-t) 0 := le_max_right _ _
  have hn : -max (-t) 0 = min t 0 := by
    rcases le_total t 0 with h | h
    · rw [max_eq_left (by rw [EReal.le_neg]; simpa using h), min_eq_left h, neg_neg]
    · rw [max_eq_right (by rw [EReal.neg_le]; simpa using h), min_eq_right h, neg_zero]
  rw [e, EReal.neg_add (Or.inl fun q => by rw [q] at hm; simp at hm) (Or.inr fun q => by rw [q] at hl; simp at hl), hn, sixteen]
  unfold gate Ideal.div
  rw [if_neg (by norm_num), sixteenth]
  congr 1
  rw [← EReal.coe_inv]
  norm_num

/-- A sum of values that are never plus infinity is not changed by adding the sum of their differences with themselves. -/
theorem sum_add_sum_sub {n : Nat} (f : Fin n → EReal) (hf : ∀ k, f k ≠ ⊤) : ∑ k, f k + ∑ k, (f k - f k) = ∑ k, f k := by
  by_cases h : ∃ k, f k = ⊥
  · obtain ⟨k, hk⟩ := h
    have hs : ∑ k, f k = ⊥ := by rw [← Finset.add_sum_erase _ _ (Finset.mem_univ k), hk, EReal.bot_add]
    rw [hs, EReal.bot_add]
  · have hz : ∀ k, f k - f k = 0 := fun k => EReal.sub_self (hf k) fun q => h ⟨k, q⟩
    rw [Finset.sum_congr rfl fun k _ => hz k, Finset.sum_const_zero, add_zero]

/-- A product sum over 128 columns whose second factor is zero but for sixteen columns from `o` on is the sum over the sixteen. -/
theorem sum_window (o : Nat) (ho : o + 16 ≤ 128) (z : Fin 128 → EReal) (g : Fin 16 → EReal) :
    ∑ j : Fin 128, z j * (if h : o ≤ j.val ∧ j.val < o + 16 then g ⟨j.val - o, by omega⟩ else 0)
      = ∑ k : Fin 16, z ⟨o + k.val, by omega⟩ * g k := by
  symm
  refine Finset.sum_of_injOn (fun k : Fin 16 => (⟨o + k.val, by omega⟩ : Fin 128)) (fun a _ b _ q => ?_) (fun _ _ => Finset.mem_coe.2 (Finset.mem_univ _))
    (fun j _ hj => ?_) (fun k _ => ?_)
  · have := congrArg Fin.val q
    exact Fin.ext (by simpa using this)
  · rw [dif_neg, mul_zero]
    rintro ⟨h1, h2⟩
    exact hj ⟨⟨j.val - o, by omega⟩, by simp, Fin.ext (by simp; omega)⟩
  · rw [dif_pos (by constructor <;> simp)]
    congr 2
    exact Fin.ext (by simp)

/-- The running sum along the third of four axes, as a window sum padded on the low side: entry `j` is the sum of the entries up to and including `j`. -/
theorem cumsum_apply {A B N D M : Nat} (hN : M + 1 = N) (x : FVec Ideal ⟨4, ![A, B, N, D]⟩ .f32) (init : FVec Ideal ⟨0, ![]⟩ .f32)
    (h : (⟨4, ![A, B, N, D]⟩ : Shape).ReduceWindows (![1, 1, N, 1] : Fin 4 → Nat) ![1, 1, 1, 1] ![0, 0, M, 0] ![0, 0, 0, 0] ⟨4, ![A, B, N, D]⟩)
    (hu : 0 < (⟨0, ![]⟩ : Shape).numel) (hinit : init (Shape.Idx.first hu) = 0) (a : Fin A) (b : Fin B) (j : Fin N) (d : Fin D) :
    Host.reduceWindowAdd (F := Ideal) ![1, 1, N, 1] ![1, 1, 1, 1] ![0, 0, M, 0] ![0, 0, 0, 0] x init h hu (ix4 a b j d)
      = ∑ i : Fin N, if i ≤ j then x (ix4 a b i d) else 0 := by
  have fold : ∀ (m : Nat) (f : Fin m → EReal) (v : EReal), (List.finRange m).foldl (fun r n => r + f n) v = v + ∑ n, f n := by
    intro m f v
    rw [← List.sum_ofFn, List.ofFn_eq_map]
    generalize List.finRange m = l
    induction l generalizing v with
    | nil => simp
    | cons c l ih => simp [ih, add_assoc]
  subst hN
  have hj := j.isLt
  have hnumel : (⟨4, ![1, 1, M + 1, 1]⟩ : Shape).numel = M + 1 := (Fin.prod_univ_four _).trans (by simp)
  let F : Nat → EReal := fun i => if h : i < M + 1 then x (ix4 a b ⟨i, h⟩ d) else 0
  have pos : ∀ n : Fin (⟨4, ![1, 1, M + 1, 1]⟩ : Shape).numel,
      ((⟨4, ![1, 1, M + 1, 1]⟩ : Shape).rowMajor.symm n 0).val = 0 ∧ ((⟨4, ![1, 1, M + 1, 1]⟩ : Shape).rowMajor.symm n 1).val = 0
        ∧ ((⟨4, ![1, 1, M + 1, 1]⟩ : Shape).rowMajor.symm n 2).val = n.val ∧ ((⟨4, ![1, 1, M + 1, 1]⟩ : Shape).rowMajor.symm n 3).val = 0 := by
    intro n
    have e := Shape.rowMajor_val_four ((⟨4, ![1, 1, M + 1, 1]⟩ : Shape).rowMajor.symm n)
    rw [Equiv.apply_symm_apply] at e
    have h0 : ((⟨4, ![1, 1, M + 1, 1]⟩ : Shape).rowMajor.symm n 0).val < 1 := ((⟨4, ![1, 1, M + 1, 1]⟩ : Shape).rowMajor.symm n 0).isLt
    have h1 : ((⟨4, ![1, 1, M + 1, 1]⟩ : Shape).rowMajor.symm n 1).val < 1 := ((⟨4, ![1, 1, M + 1, 1]⟩ : Shape).rowMajor.symm n 1).isLt
    have h3 : ((⟨4, ![1, 1, M + 1, 1]⟩ : Shape).rowMajor.symm n 3).val < 1 := ((⟨4, ![1, 1, M + 1, 1]⟩ : Shape).rowMajor.symm n 3).isLt
    have q0 : ((⟨4, ![1, 1, M + 1, 1]⟩ : Shape).rowMajor.symm n 0).val = 0 := by omega
    have q1 : ((⟨4, ![1, 1, M + 1, 1]⟩ : Shape).rowMajor.symm n 1).val = 0 := by omega
    have q3 : ((⟨4, ![1, 1, M + 1, 1]⟩ : Shape).rowMajor.symm n 3).val = 0 := by omega
    rw [q0, q1, q3] at e
    simp only [Nat.zero_mul, Nat.zero_add, Nat.add_zero] at e
    exact ⟨q0, q1, (e.trans (Nat.mul_one _)).symm, q3⟩
  show Host.reduceWindow (· + ·) _ _ _ _ x (fun _ : (⟨0, ![]⟩ : Shape).Idx => init (Shape.Idx.first hu)) h hu _ = _
  unfold Host.reduceWindow
  dsimp only
  refine (fold _ _ _).trans ?_
  rw [hinit, zero_add]
  refine (Finset.sum_congr rfl (g := fun n => (fun n : Nat => if M ≤ j.val + n then F (j.val + n - M) else 0) n.val) fun n _ => ?_).trans ?_
  · obtain ⟨p0, p1, p2, p3⟩ := pos n
    have hn : n.val < M + 1 := lt_of_lt_of_eq n.isLt hnumel
    have ha := a.isLt
    have hb := b.isLt
    have hd := d.isLt
    dsimp only
    split
    · next hin =>
      have h2 := (hin 2).1
      change M ≤ j.val * 1 + ((⟨4, ![1, 1, M + 1, 1]⟩ : Shape).rowMajor.symm n 2).val at h2
      rw [p2] at h2
      rw [if_pos (by omega)]
      simp only [F]
      rw [dif_pos (by omega)]
      refine congrArg x (funext fun q => Fin.ext ?_)
      match q with
      | ⟨0, _⟩ =>
        show a.val * 1 + ((⟨4, ![1, 1, M + 1, 1]⟩ : Shape).rowMajor.symm n 0).val - 0 = a.val
        rw [p0]; omega
      | ⟨1, _⟩ =>
        show b.val * 1 + ((⟨4, ![1, 1, M + 1, 1]⟩ : Shape).rowMajor.symm n 1).val - 0 = b.val
        rw [p1]; omega
      | ⟨2, _⟩ =>
        show j.val * 1 + ((⟨4, ![1, 1, M + 1, 1]⟩ : Shape).rowMajor.symm n 2).val - M = j.val + n.val - M
        rw [p2]; omega
      | ⟨3, _⟩ =>
        show d.val * 1 + ((⟨4, ![1, 1, M + 1, 1]⟩ : Shape).rowMajor.symm n 3).val - 0 = d.val
        rw [p3]; omega
    · next hin =>
      rw [if_neg fun hle => hin fun q => ?_]
      match q with
      | ⟨0, _⟩ =>
        show 0 ≤ a.val * 1 + ((⟨4, ![1, 1, M + 1, 1]⟩ : Shape).rowMajor.symm n 0).val
          ∧ a.val * 1 + ((⟨4, ![1, 1, M + 1, 1]⟩ : Shape).rowMajor.symm n 0).val - 0 < A
        rw [p0]; omega
      | ⟨1, _⟩ =>
        show 0 ≤ b.val * 1 + ((⟨4, ![1, 1, M + 1, 1]⟩ : Shape).rowMajor.symm n 1).val
          ∧ b.val * 1 + ((⟨4, ![1, 1, M + 1, 1]⟩ : Shape).rowMajor.symm n 1).val - 0 < B
        rw [p1]; omega
      | ⟨2, _⟩ =>
        show M ≤ j.val * 1 + ((⟨4, ![1, 1, M + 1, 1]⟩ : Shape).rowMajor.symm n 2).val
          ∧ j.val * 1 + ((⟨4, ![1, 1, M + 1, 1]⟩ : Shape).rowMajor.symm n 2).val - M < M + 1
        rw [p2]; omega
      | ⟨3, _⟩ =>
        show 0 ≤ d.val * 1 + ((⟨4, ![1, 1, M + 1, 1]⟩ : Shape).rowMajor.symm n 3).val
          ∧ d.val * 1 + ((⟨4, ![1, 1, M + 1, 1]⟩ : Shape).rowMajor.symm n 3).val - 0 < D
        rw [p3]; omega
  · rw [Fin.sum_univ_eq_sum_range (fun n : Nat => if M ≤ j.val + n then F (j.val + n - M) else 0), hnumel]
    have right : ∀ i : Fin (M + 1), (if i ≤ j then x (ix4 a b i d) else 0) = (fun n : Nat => if n ≤ j.val then F n else 0) i.val := fun i => by
      show _ = if i.val ≤ j.val then F i.val else 0
      simp only [F, dif_pos i.isLt]
      rfl
    rw [Finset.sum_congr rfl fun i _ => right i, Fin.sum_univ_eq_sum_range (fun n : Nat => if n ≤ j.val then F n else 0),
      ← Finset.sum_filter, ← Finset.sum_filter]
    refine Finset.sum_nbij' (fun n => j.val + n - M) (fun i => i + M - j.val) ?_ ?_ ?_ ?_ (fun _ _ => rfl)
    all_goals
      intro n hn
      simp only [Finset.mem_filter, Finset.mem_range] at hn ⊢
      omega

end Cert.Gate

end
-- ==== Proof.CtxLayer.lean ====
module

public import proofs.«01_k».proof.Defs
public import proofs.«01_k».proof.Proof.Gen.CtxIdeal.Value
public import proofs.«01_k».proof.Proof.Gen.CtxRefIdeal.Read
public import proofs.«01_k».proof.Proof.Gen.CtxRefIdeal
public import proofs.«01_k».proof.Proof.Gen.Ctx
public import Idealize.ShloMosaic.Lib.Pipeline.ValueKit
public import Idealize.ShloMosaic.Lib.Pointwise
public import proofs.«01_k».proof.Proof.Gate

@[expose] public section

set_option maxRecDepth 16384

noncomputable section

namespace Cert.CtxIdeal.Layer

open Cert.CtxIdeal Cert.CtxIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Gate

/-- A one-bit comparison of two row numbers, read as a choice. -/
theorem select_row (a b : Fin 256) (u v : EReal) :
    Scalar.select (IntOp.cmpi .sle (BitVec.ofNat 32 a.val) (BitVec.ofNat 32 b.val)) u v = if a ≤ b then u else v := by
  have ha : a.val < 2 ^ (32 - 1) := by omega
  have hb : b.val < 2 ^ (32 - 1) := by omega
  by_cases h : a ≤ b
  · rw [if_pos h]
    exact if_pos ((WordCmp.cmpi_sle_ofNat_eq_one_iff ha hb).2 h)
  · rw [if_neg h]
    exact if_neg fun q => h ((WordCmp.cmpi_sle_ofNat_eq_one_iff ha hb).1 q)

/-- The sum of the gates of one column over the rows up to `r`. -/
def cum (t : Fin 256 → EReal) (r : Fin 256) : EReal := ∑ i : Fin 256, if i ≤ r then gate (t i) else 0

/-- The kernel's running sum of gates: the product with the triangular mask, taken in a high and a low part. -/
theorem pay3_apply (x2 : Vec Ideal S1x256x128 .f32) (x3 : Vec Ideal S128x512 .bf16) (x4 : Vec Ideal S1x512 .f32) (r : Fin 256)
    (c : Fin 512) :
    k0_pay3 x2 x3 x4 (ix2 r c) = cum (fun i => ∑ j : Fin 128, x2 (ix3 0 i j) * x3 (ix2 j c) + x4 (ix2 0 c)) r := by
  unfold k0_pay3
  pointwise
  simp only [select_row]
  refine Eq.trans ?_ (sum_add_sum_sub (fun i : Fin 256 => if i ≤ r then
      gate (∑ j : Fin 128, x2 (ix3 0 i j) * x3 (ix2 j c) + x4 (ix2 0 c)) else 0) fun k => ?_)
  · refine congr (congrArg HAdd.hAdd rfl) (Finset.sum_congr rfl fun k _ => ?_)
    by_cases h : k ≤ r
    · simp only [if_pos h]; rfl
    · simp only [if_neg h, sub_zero]
  · show (if k ≤ r then _ else _) ≠ ⊤
    by_cases h : k ≤ r
    · rw [if_pos h]; exact gate_ne_top _
    · rw [if_neg h]; exact EReal.zero_ne_top

/-- One head's state entry: the sum over the rows of value times decayed key. -/
def state (v k : Fin 256 → EReal) (t : Fin 256 → EReal) : EReal :=
  ∑ r : Fin 256, v r * (k r * Ideal.exp (cum t 255 - cum t r))

/-- One block of the context state. -/
theorem state_block (x0 : Vec Ideal S1x256x512 .bf16) (x1 : Vec Ideal S1x256x1024 .bf16) (x2 : Vec Ideal S1x256x128 .f32)
    (x3 : Vec Ideal S128x512 .bf16) (x4 : Vec Ideal S1x512 .f32) (y : S1x4x256x128.Idx) :
    out0_5 x0 x1 x2 x3 x4 y =
      state (fun r => x1 (ix3 0 r ⟨256 * (y 1).val + (y 2).val, by idx_bounds y; omega⟩))
        (fun r => x0 (ix3 0 r ⟨128 * (y 1).val + (y 3).val, by idx_bounds y; omega⟩))
        (fun i => ∑ j : Fin 128, x2 (ix3 0 i j) * x3 (ix2 j ⟨128 * (y 1).val + (y 3).val, by idx_bounds y; omega⟩)
          + x4 (ix2 0 ⟨128 * (y 1).val + (y 3).val, by idx_bounds y; omega⟩)) := by
  unfold_out out0_5
  canon_tiles x h
  all_goals
    simp only [k0_pay1, k0_pay2, k0_pay4, k0_pay5, k0_pay6, k0_pay7, k0_pay8]
    unfold state
    pointwise
    simp only [pay3_apply]
    unfold cum
    pointwise
    blk_point []

/-- The context state on the whole arrays, index by index. -/
def G (p : FVec Ideal S2x256x3072 .bf16) (z : FVec Ideal S2x256x128 .f32) (w : FVec Ideal S16x512 .f32) (b : FVec Ideal S512 .f32) :
    FVec Ideal S2x4x256x128 .f32 :=
  fun i => state (fun r => p (ix3 (i 0) r ⟨1024 + (256 * (i 1).val + (i 2).val), by idx_bounds i; omega⟩))
    (fun r => p (ix3 (i 0) r ⟨512 + (128 * (i 1).val + (i 3).val), by idx_bounds i; omega⟩))
    (fun r => ∑ j : Fin 16, z (ix3 (i 0) r ⟨0 + j.val, by omega⟩) * w (ix2 j ⟨128 * (i 1).val + (i 3).val, by idx_bounds i; omega⟩)
      + b (ix1 ⟨128 * (i 1).val + (i 3).val, by idx_bounds i; omega⟩))

theorem index0 : ∀ t : Fin cfg0.N, win0_0.index t = ![(grid0.coords t 0).val, 0, 1] :=
  (by decide +kernel : ∀ t : Fin grid0.N, _)
theorem index1 : ∀ t : Fin cfg0.N, win0_1.index t = ![(grid0.coords t 0).val, 0, 1] :=
  (by decide +kernel : ∀ t : Fin grid0.N, _)
theorem index2 : ∀ t : Fin cfg0.N, win0_2.index t = ![(grid0.coords t 0).val, 0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, 0, 0, 0] :=
  (by decide +kernel : ∀ t : Fin grid0.N, _)

/-- The padded weights when the call starts. -/
theorem V_main_v1 (c : Dev nD) : V m c main_v1 = (truncf .bf16 (pad S128x512 ![0, 0] ![112, 0] ![0, 0]
    (m ((c : Thread nD τ).loc main_arg2) : FVec Ideal S16x512 .f32) (sitofp .f32 (constantI S_ 32 0#32)) pads_S16x512_S128x512_01120_000 h_S_) bitsLt_bf16_f32 : FVec Ideal S128x512 .bf16) := by
  unfold V
  simp only [hostOps0, hostOps0_1, hostOps0_2, List.flatten_cons, List.flatten_nil, List.append_nil, List.cons_append, List.nil_append]
  after_results
  try rfl

/-- The bias when the call starts. -/
theorem V_main_v2 (c : Dev nD) : V m c main_v2 = broadcastInDim S1x512 ![1] bcast_S512_S1x512_1
    (m ((c : Thread nD τ).loc main_arg3)) := by
  unfold V
  simp only [hostOps0, hostOps0_1, hostOps0_2, List.flatten_cons, List.flatten_nil, List.append_nil, List.cons_append, List.nil_append]
  after_results
  try rfl

/-- The weight window holds the sixteen rows of the weights and zeros below them. -/
theorem weights (c : Dev nD) (t : Fin cfg0.N) (j : Fin 128) (q : Fin 512) :
    iblk m c 3 t (ix2 j q) = (if h : 0 ≤ j.val ∧ j.val < 0 + 16 then
      (m ((c : Thread nD τ).loc main_arg2) : FVec Ideal S16x512 .f32) (ix2 (⟨j.val - 0, by omega⟩ : Fin 16) q) else 0 : EReal) := by
  blk_simp [iblk]
  rw [V_main_v1]
  by_cases h : 0 ≤ j.val ∧ j.val < 0 + 16
  · rw [dif_pos h]
    pointwise
    blk_simp [index3 t]
    refine (dif_pos fun a => ?_).trans ?_
    · match a with
      | ⟨0, _⟩ =>
        show 0 ≤ 0 * 128 + j.val ∧ (0 * 128 + j.val - 0) % (0 + 1) = 0 ∧ (0 * 128 + j.val - 0) / (0 + 1) < 16
        omega
      | ⟨1, _⟩ =>
        show 0 ≤ 0 * 512 + q.val ∧ (0 * 512 + q.val - 0) % (0 + 1) = 0 ∧ (0 * 512 + q.val - 0) / (0 + 1) < 512
        omega
    · blk_point [index3 t]
  · rw [dif_neg h]
    pointwise
    blk_simp [index3 t]
    refine (dif_neg fun hin => ?_).trans ?_
    · have h0 : 0 ≤ 0 * 128 + j.val ∧ (0 * 128 + j.val - 0) % (0 + 1) = 0 ∧ (0 * 128 + j.val - 0) / (0 + 1) < 16 := hin (0 : Fin 2)
      omega
    · show (((0#32).toInt : ℝ) : EReal) = 0
      simp

/-- The bias window. -/
theorem bias (c : Dev nD) (t : Fin cfg0.N) (q : Fin 512) :
    iblk m c 4 t (ix2 0 q) = m ((c : Thread nD τ).loc main_arg3) (ix1 q) := by
  blk_simp [iblk]
  rw [V_main_v2]
  pointwise
  blk_point [index4 t]

/-- The result array after the run is that function of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5, state_block]
  unfold G
  refine congr (congr (congrArg state (funext fun r => ?_)) (funext fun r => ?_)) (funext fun r => congr (congrArg HAdd.hAdd ?_) ?_)
  · blk_point [iblk, V_main_arg0, index1 t, index5 t]
  · blk_point [iblk, V_main_arg0, index0 t, index5 t]
  · simp only [weights]
    refine (sum_window 0 (by decide) (fun j => iblk m c 2 t (ix3 0 r j))
      (fun k => (m ((c : Thread nD τ).loc main_arg2) : FVec Ideal S16x512 .f32) (ix2 k
        (⟨128 * (y 1).val + (y 3).val, by idx_bounds y; omega⟩ : Fin 512)))).trans ?_
    blk_point [iblk, V_main_arg1, index2 t, index5 t]
  · rw [bias]
    blk_point [index5 t]

open Cert.CtxRefIdeal.Read in
/-- The reference's log gate at a row and a column. -/
theorem reference_gate (z : FVec Ideal S2x256x128 .f32) (w : FVec Ideal S16x512 .f32) (b : FVec Ideal S512 .f32)
    (a : Fin 2) (h : Fin 4) (r : Fin 256) (k : Fin 128) :
    val_main_v17 (F := Ideal) z w b (ix4 a h r k) =
      gate (∑ j : Fin 16, z (ix3 a r ⟨0 + j.val, by omega⟩) * w (ix2 j ⟨128 * h.val + k.val, by omega⟩)
        + b (ix1 ⟨128 * h.val + k.val, by omega⟩)) := by
  rw [← host_gate]
  have hrow : idx_main_v16 (idx_main_v17 (ix4 a h r k)) = ix3 a r ⟨128 * h.val + k.val, by omega⟩ := by idx_ext
  simp only [val_main_v17_apply, val_main_v16_apply, hrow]
  have hsel : ∀ t u v : EReal, Scalar.select (FloatOps.cmpf (F := Ideal) (φ := .f32) .une t t) u v = v := fun t u v =>
    if_neg (by show ¬Ideal.cmp .une t t = 1#1; simp [Ideal.cmp])
  simp only [val_main_v15_apply, val_main_v14_apply, val_main_v13_apply,
    val_main_call0_v1_apply, val_main_call0_call0_v4_apply]
  rw [hsel]
  simp only [val_main_call0_call0_v11_apply, val_main_call0_call0_v10_apply, val_main_call0_call0_v9_apply,
    val_main_call0_call0_v8_apply, val_main_call0_call0_v7_apply, val_main_call0_call0_v3_apply, val_main_call0_call0_v2_apply,
    val_main_call0_call0_v1_apply, val_main_call0_call0_v0_apply, val_main_call0_call0_cst_apply, val_main_call0_v0_apply,
    val_main_v12_apply, val_main_v11_apply, val_main_v10_apply, val_main_v9_apply, val_main_v8_apply, val_main_cst_apply]
  have hz : ∀ x : Fin 16, idx_main_v8 (lidx_main_v9 (ix3 a r ⟨128 * h.val + k.val, by omega⟩) x) = ix3 a r ⟨0 + x.val, by omega⟩ :=
    fun x => by idx_ext
  have hw : ∀ x : Fin 16, ridx_main_v9 (ix3 a r ⟨128 * h.val + k.val, by omega⟩) x = ix2 x ⟨128 * h.val + k.val, by omega⟩ :=
    fun x => by idx_ext
  have hb : idx_main_v10 (idx_main_v11 (ix3 a r ⟨128 * h.val + k.val, by omega⟩)) = ix1 ⟨128 * h.val + k.val, by omega⟩ := by idx_ext
  simp only [hz, hw, hb]
  pointwise
  rfl

open Cert.CtxRefIdeal.Read in
/-- The reference's running sum of gates. -/
theorem reference_cum (z : FVec Ideal S2x256x128 .f32) (w : FVec Ideal S16x512 .f32) (b : FVec Ideal S512 .f32)
    (a : Fin 2) (h : Fin 4) (r : Fin 256) (k : Fin 128) :
    val_main_v18 (F := Ideal) z w b (ix4 a h r k) =
      cum (fun i => ∑ j : Fin 16, z (ix3 a i ⟨0 + j.val, by omega⟩) * w (ix2 j ⟨128 * h.val + k.val, by omega⟩)
        + b (ix1 ⟨128 * h.val + k.val, by omega⟩)) r := by
  unfold val_main_v18 cum
  refine (cumsum_apply (by decide) _ _ _ _ ?_ a h r k).trans (Finset.sum_congr rfl fun i _ => ?_)
  · rw [val_main_call1_call0_v0_apply, val_main_call1_call0_cst_apply]
    show Ideal.ofBits .f32 0x00000000#32 = 0
    simp [Ideal.ofBits, Ideal.ieee]
  · rw [reference_gate]

open Cert.CtxRefIdeal.Read in
/-- The reference's result at one index. -/
theorem reference_at (p : FVec Ideal S2x256x3072 .bf16) (z : FVec Ideal S2x256x128 .f32) (w : FVec Ideal S16x512 .f32)
    (b : FVec Ideal S512 .f32) (a : Fin 2) (h : Fin 4) (v : Fin 256) (k : Fin 128) :
    val_main_v25 (F := Ideal) p z w b (ix4 a h v k) =
      state (fun r => p (ix3 a r ⟨1024 + (256 * h.val + v.val), by omega⟩))
        (fun r => p (ix3 a r ⟨512 + (128 * h.val + k.val), by omega⟩))
        (fun r => ∑ j : Fin 16, z (ix3 a r ⟨0 + j.val, by omega⟩) * w (ix2 j ⟨128 * h.val + k.val, by omega⟩)
          + b (ix1 ⟨128 * h.val + k.val, by omega⟩)) := by
  rw [val_main_v25_apply, val_main_v24_apply]
  unfold state
  refine Finset.sum_congr rfl fun r _ => ?_
  have hlast : idx_main_v19 (idx_main_v20 (ix4 a h r k)) = ix4 a h (255 : Fin 256) k := by idx_ext
  have hrow : lidx_main_v24 (idx_main_v25 (ix4 a h v k)) r = ix4 a h r k := by idx_ext
  have hkey : idx_main_v0 (idx_main_v1 (idx_main_v2 (ix4 a h r k))) = ix3 a r ⟨512 + (128 * h.val + k.val), by omega⟩ := by idx_ext
  have hval : idx_main_v4 (idx_main_v5 (idx_main_v6 (ridx_main_v24 (idx_main_v25 (ix4 a h v k)) r)))
      = ix3 a r ⟨1024 + (256 * h.val + v.val), by omega⟩ := by idx_ext
  rw [hrow, val_main_v23_apply, val_main_v22_apply, val_main_v21_apply, val_main_v20_apply, val_main_v19_apply, hlast,
    reference_cum, reference_cum]
  simp only [val_main_v3_apply, val_main_v2_apply, val_main_v1_apply, val_main_v0_apply, val_main_v7_apply, val_main_v6_apply,
    val_main_v5_apply, val_main_v4_apply, hkey, hval]
  exact mul_comm _ _

open Cert.CtxRefIdeal.Read in
/-- The reference's result is the same function of its arguments. -/
theorem reference_eq (p : FVec Ideal S2x256x3072 .bf16) (z : FVec Ideal S2x256x128 .f32) (w : FVec Ideal S16x512 .f32)
    (b : FVec Ideal S512 .f32) : val_main_v25 (F := Ideal) p z w b = G p z w b := by
  funext i
  have hi : i = ix4 (i 0) (i 1) (i 2) (i 3) := by idx_ext
  exact (congrArg _ hi).trans (reference_at p z w b (i 0) (i 1) (i 2) (i 3))

/-- The kernel's program and the reference end with equal results. -/
theorem algebraic : Cert.algebraic_CtxIdeal_CtxRefIdeal := by
  intro m ρ m' ρ' _ hagree
  refine ⟨fun c => G (m ((c : Thread nD τ).loc main_arg0)) (m ((c : Thread nD τ).loc main_arg1)) (m ((c : Thread nD τ).loc main_arg2))
        (m ((c : Thread nD τ).loc main_arg3)), ?_, ?_⟩
  · exact (θ_run Cert.CtxIdeal.defs _ _).mono
      (fun _ h c => ⟨(h c).1.trans (final m c), (h c).2⟩)
      (Value.run_blocks (F := Ideal) m ρ)
  · refine (θ_run Cert.CtxRefIdeal.defs _ _).mono (fun _ h c => ⟨(h c).1.trans ?_, (h c).2⟩)
      (Cert.CtxRefIdeal.Value.run (F := Ideal) m' ρ')
    rw [Cert.CtxRefIdeal.Read.val_main_v25_eq, (hagree c).1, (hagree c).2.1, (hagree c).2.2.1, (hagree c).2.2.2]
    exact reference_eq _ _ _ _

/-- The kernel's program and its idealized form call the same body at every grid point. -/
theorem bodies_eq : Cert.Ctx.defs₀ (F := Bits) = Cert.CtxIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_Ctx := by
  intro m ρ _
  rw [show Cert.Ctx.defs (F := Bits) = Cert.CtxIdeal.defs (F := Bits) from
    congrArg (Pipeline.defs (Cert.CtxIdeal.pcfgs (F := Bits))) bodies_eq]
  exact Cert.CtxIdeal.Gen.frame (F := Bits) m ρ

/-- The same of the idealized program. -/
theorem frame_ideal : Cert.quiescent_CtxIdeal := fun m ρ _ => Cert.CtxIdeal.Gen.frame m ρ

/-- The same of the reference, which declares no semaphore. -/
theorem frame_reference : Cert.quiescent_CtxRefIdeal := fun m ρ _ =>
  (θ_run Cert.CtxRefIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.CtxRefIdeal.Value.run (F := Ideal) m ρ)

end Cert.CtxIdeal.Layer
-- ==== Proof.CtxBackLayer.lean ====
module

public import proofs.«01_k».proof.Defs
public import proofs.«01_k».proof.Proof.Gen.CtxBackIdeal.Value
public import proofs.«01_k».proof.Proof.Gen.CtxBackRefIdeal.Read
public import proofs.«01_k».proof.Proof.Gen.CtxBackRefIdeal
public import proofs.«01_k».proof.Proof.Gen.CtxBack
public import Idealize.ShloMosaic.Lib.Pipeline.ValueKit
public import Idealize.ShloMosaic.Lib.Pointwise
public import proofs.«01_k».proof.Proof.Gate

@[expose] public section

set_option maxRecDepth 16384

noncomputable section

namespace Cert.CtxBackIdeal.Layer

open Cert.CtxBackIdeal Cert.CtxBackIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Gate

/-- A one-bit comparison of two row numbers, read as a choice. -/
theorem select_row (a b : Fin 256) (u v : EReal) :
    Scalar.select (IntOp.cmpi .sge (BitVec.ofNat 32 a.val) (BitVec.ofNat 32 b.val)) u v = if b ≤ a then u else v := by
  have ha : a.val < 2 ^ (32 - 1) := by omega
  have hb : b.val < 2 ^ (32 - 1) := by omega
  by_cases h : b ≤ a
  · rw [if_pos h]
    exact if_pos ((WordCmp.cmpi_sge_ofNat_eq_one_iff ha hb).2 h)
  · rw [if_neg h]
    exact if_neg fun q => h ((WordCmp.cmpi_sge_ofNat_eq_one_iff ha hb).1 q)

/-- The sum of the gates of one column over the rows up to `r`. -/
def cum (t : Fin 256 → EReal) (r : Fin 256) : EReal := ∑ i : Fin 256, if i ≤ r then gate (t i) else 0

/-- The kernel's running sum of gates, taken from the last row upwards: the product with the triangular mask, in a high and a low part. -/
theorem pay3_apply (x2 : Vec Ideal S1x256x128 .f32) (x3 : Vec Ideal S128x512 .bf16) (x4 : Vec Ideal S1x512 .f32) (r : Fin 256)
    (c : Fin 512) :
    k0_pay3 x2 x3 x4 (ix2 r c) = cum (fun i => ∑ j : Fin 128, x2 (ix3 0 i.rev j) * x3 (ix2 j c) + x4 (ix2 0 c)) r.rev := by
  unfold k0_pay3
  pointwise
  simp only [select_row]
  refine (Eq.trans ?_ (sum_add_sum_sub (fun i : Fin 256 => if r ≤ i then
      gate (∑ j : Fin 128, x2 (ix3 0 i j) * x3 (ix2 j c) + x4 (ix2 0 c)) else 0) fun k => ?_)).trans ?_
  · refine congr (congrArg HAdd.hAdd rfl) (Finset.sum_congr rfl fun k _ => ?_)
    by_cases h : r ≤ k
    · simp only [if_pos h]; rfl
    · simp only [if_neg h, sub_zero]
  · show (if r ≤ k then _ else _) ≠ ⊤
    by_cases h : r ≤ k
    · rw [if_pos h]; exact gate_ne_top _
    · rw [if_neg h]; exact EReal.zero_ne_top
  · unfold cum
    rw [← Equiv.sum_comp Fin.revPerm]
    refine Finset.sum_congr rfl fun k _ => ?_
    show (if r ≤ k.rev then _ else _) = _
    exact if_congr Fin.le_rev_iff rfl rfl

/-- One head's state entry: the sum over the rows of value times decayed key. -/
def state (v k : Fin 256 → EReal) (t : Fin 256 → EReal) : EReal :=
  ∑ r : Fin 256, v r * (k r * Ideal.exp (cum t 255 - cum t r))

theorem first_rev : Fin.rev (0 : Fin 256) = 255 := rfl

/-- The same with the rows of values and keys reversed, summed in the rows' own order. -/
theorem state_rev (v k : Fin 256 → EReal) (t : Fin 256 → EReal) :
    state (fun r => v r.rev) (fun r => k r.rev) t = ∑ r : Fin 256, v r * (k r * Ideal.exp (cum t 255 - cum t r.rev)) := by
  unfold state
  rw [← Equiv.sum_comp Fin.revPerm]
  simp only [Fin.revPerm_apply, Fin.rev_rev]

/-- One block of the context state. -/
theorem state_block (x0 : Vec Ideal S1x256x512 .bf16) (x1 : Vec Ideal S1x256x1024 .bf16) (x2 : Vec Ideal S1x256x128 .f32)
    (x3 : Vec Ideal S128x512 .bf16) (x4 : Vec Ideal S1x512 .f32) (y : S1x4x256x128.Idx) :
    out0_5 x0 x1 x2 x3 x4 y =
      state (fun r => x1 (ix3 0 r.rev ⟨256 * (y 1).val + (y 2).val, by idx_bounds y; omega⟩))
        (fun r => x0 (ix3 0 r.rev ⟨128 * (y 1).val + (y 3).val, by idx_bounds y; omega⟩))
        (fun i => ∑ j : Fin 128, x2 (ix3 0 i.rev j) * x3 (ix2 j ⟨128 * (y 1).val + (y 3).val, by idx_bounds y; omega⟩)
          + x4 (ix2 0 ⟨128 * (y 1).val + (y 3).val, by idx_bounds y; omega⟩)) := by
  refine Eq.trans ?_ (state_rev (fun r => x1 (ix3 0 r ⟨256 * (y 1).val + (y 2).val, by idx_bounds y; omega⟩))
    (fun r => x0 (ix3 0 r ⟨128 * (y 1).val + (y 3).val, by idx_bounds y; omega⟩)) _).symm
  unfold_out out0_5
  canon_tiles x h
  all_goals
    simp only [k0_pay1, k0_pay2, k0_pay4, k0_pay5, k0_pay6, k0_pay7, k0_pay8]
    pointwise
    simp only [pay3_apply, first_rev]
    unfold cum
    pointwise
    blk_point []

/-- The context state on the whole arrays, index by index. -/
def G (p : FVec Ideal S2x256x3072 .bf16) (z : FVec Ideal S2x256x128 .f32) (w : FVec Ideal S16x512 .f32) (b : FVec Ideal S512 .f32) :
    FVec Ideal S2x4x256x128 .f32 :=
  fun i => state (fun r => p (ix3 (i 0) r.rev ⟨1024 + (256 * (i 1).val + (i 2).val), by idx_bounds i; omega⟩))
    (fun r => p (ix3 (i 0) r.rev ⟨512 + (128 * (i 1).val + (i 3).val), by idx_bounds i; omega⟩))
    (fun r => ∑ j : Fin 16, z (ix3 (i 0) r.rev ⟨16 + j.val, by omega⟩) * w (ix2 j ⟨128 * (i 1).val + (i 3).val, by idx_bounds i; omega⟩)
      + b (ix1 ⟨128 * (i 1).val + (i 3).val, by idx_bounds i; omega⟩))

theorem index0 : ∀ t : Fin cfg0.N, win0_0.index t = ![(grid0.coords t 0).val, 0, 1] :=
  (by decide +kernel : ∀ t : Fin grid0.N, _)
theorem index1 : ∀ t : Fin cfg0.N, win0_1.index t = ![(grid0.coords t 0).val, 0, 1] :=
  (by decide +kernel : ∀ t : Fin grid0.N, _)
theorem index2 : ∀ t : Fin cfg0.N, win0_2.index t = ![(grid0.coords t 0).val, 0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, 0, 0, 0] :=
  (by decide +kernel : ∀ t : Fin grid0.N, _)

/-- The padded weights when the call starts. -/
theorem V_main_v1 (c : Dev nD) : V m c main_v1 = (truncf .bf16 (pad S128x512 ![16, 0] ![96, 0] ![0, 0]
    (m ((c : Thread nD τ).loc main_arg2) : FVec Ideal S16x512 .f32) (sitofp .f32 (constantI S_ 32 0#32)) pads_S16x512_S128x512_16960_000 h_S_) bitsLt_bf16_f32 : FVec Ideal S128x512 .bf16) := by
  unfold V
  simp only [hostOps0, hostOps0_1, hostOps0_2, List.flatten_cons, List.flatten_nil, List.append_nil, List.cons_append, List.nil_append]
  after_results
  try rfl

/-- The bias when the call starts. -/
theorem V_main_v2 (c : Dev nD) : V m c main_v2 = broadcastInDim S1x512 ![1] bcast_S512_S1x512_1
    (m ((c : Thread nD τ).loc main_arg3)) := by
  unfold V
  simp only [hostOps0, hostOps0_1, hostOps0_2, List.flatten_cons, List.flatten_nil, List.append_nil, List.cons_append, List.nil_append]
  after_results
  try rfl

/-- The weight window holds the sixteen rows of the weights, from row 16 on, and zeros around them. -/
theorem weights (c : Dev nD) (t : Fin cfg0.N) (j : Fin 128) (q : Fin 512) :
    iblk m c 3 t (ix2 j q) = (if h : 16 ≤ j.val ∧ j.val < 16 + 16 then
      (m ((c : Thread nD τ).loc main_arg2) : FVec Ideal S16x512 .f32) (ix2 (⟨j.val - 16, by omega⟩ : Fin 16) q) else 0 : EReal) := by
  blk_simp [iblk]
  rw [V_main_v1]
  by_cases h : 16 ≤ j.val ∧ j.val < 16 + 16
  · rw [dif_pos h]
    pointwise
    blk_simp [index3 t]
    refine (dif_pos fun a => ?_).trans ?_
    · match a with
      | ⟨0, _⟩ =>
        show 16 ≤ 0 * 128 + j.val ∧ (0 * 128 + j.val - 16) % (0 + 1) = 0 ∧ (0 * 128 + j.val - 16) / (0 + 1) < 16
        omega
      | ⟨1, _⟩ =>
        show 0 ≤ 0 * 512 + q.val ∧ (0 * 512 + q.val - 0) % (0 + 1) = 0 ∧ (0 * 512 + q.val - 0) / (0 + 1) < 512
        omega
    · blk_point [index3 t]
  · rw [dif_neg h]
    pointwise
    blk_simp [index3 t]
    refine (dif_neg fun hin => ?_).trans ?_
    · have h0 : 16 ≤ 0 * 128 + j.val ∧ (0 * 128 + j.val - 16) % (0 + 1) = 0 ∧ (0 * 128 + j.val - 16) / (0 + 1) < 16 := hin (0 : Fin 2)
      omega
    · show (((0#32).toInt : ℝ) : EReal) = 0
      simp

/-- The bias window. -/
theorem bias (c : Dev nD) (t : Fin cfg0.N) (q : Fin 512) :
    iblk m c 4 t (ix2 0 q) = m ((c : Thread nD τ).loc main_arg3) (ix1 q) := by
  blk_simp [iblk]
  rw [V_main_v2]
  pointwise
  blk_point [index4 t]

/-- The result array after the run is that function of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5, state_block]
  unfold G
  refine congr (congr (congrArg state (funext fun r => ?_)) (funext fun r => ?_)) (funext fun r => congr (congrArg HAdd.hAdd ?_) ?_)
  · blk_point [iblk, V_main_arg0, index1 t, index5 t]
  · blk_point [iblk, V_main_arg0, index0 t, index5 t]
  · simp only [weights]
    refine (sum_window 16 (by decide) (fun j => iblk m c 2 t (ix3 0 r.rev j))
      (fun k => (m ((c : Thread nD τ).loc main_arg2) : FVec Ideal S16x512 .f32) (ix2 k
        (⟨128 * (y 1).val + (y 3).val, by idx_bounds y; omega⟩ : Fin 512)))).trans ?_
    blk_point [iblk, V_main_arg1, index2 t, index5 t]
  · rw [bias]
    blk_point [index5 t]

/-- An array reversed along its rows, at one index. -/
theorem flip_apply {A B N D : Nat} (x : FVec Ideal ⟨4, ![A, B, N, D]⟩ .f32) (a : Fin A) (b : Fin B) (i : Fin N) (d : Fin D) :
    Host.reverse [2] x (ix4 a b i d) = x (ix4 a b i.rev d) := by
  rw [Host.reverse_apply]
  refine congrArg x (funext fun q => ?_)
  match q with
  | ⟨0, _⟩ => rfl
  | ⟨1, _⟩ => rfl
  | ⟨2, _⟩ => rfl
  | ⟨3, _⟩ => rfl

open Cert.CtxBackRefIdeal.Read in
/-- The reference's log gate at a row and a column. -/
theorem reference_gate (z : FVec Ideal S2x256x128 .f32) (w : FVec Ideal S16x512 .f32) (b : FVec Ideal S512 .f32)
    (a : Fin 2) (h : Fin 4) (r : Fin 256) (k : Fin 128) :
    val_main_v17 (F := Ideal) z w b (ix4 a h r k) =
      gate (∑ j : Fin 16, z (ix3 a r ⟨16 + j.val, by omega⟩) * w (ix2 j ⟨128 * h.val + k.val, by omega⟩)
        + b (ix1 ⟨128 * h.val + k.val, by omega⟩)) := by
  rw [← host_gate]
  have hrow : idx_main_v16 (idx_main_v17 (ix4 a h r k)) = ix3 a r ⟨128 * h.val + k.val, by omega⟩ := by idx_ext
  simp only [val_main_v17_apply, val_main_v16_apply, hrow]
  have hsel : ∀ t u v : EReal, Scalar.select (FloatOps.cmpf (F := Ideal) (φ := .f32) .une t t) u v = v := fun t u v =>
    if_neg (by show ¬Ideal.cmp .une t t = 1#1; simp [Ideal.cmp])
  simp only [val_main_v15_apply, val_main_v14_apply, val_main_v13_apply,
    val_main_call0_v1_apply, val_main_call0_call0_v4_apply]
  rw [hsel]
  simp only [val_main_call0_call0_v11_apply, val_main_call0_call0_v10_apply, val_main_call0_call0_v9_apply,
    val_main_call0_call0_v8_apply, val_main_call0_call0_v7_apply, val_main_call0_call0_v3_apply, val_main_call0_call0_v2_apply,
    val_main_call0_call0_v1_apply, val_main_call0_call0_v0_apply, val_main_call0_call0_cst_apply, val_main_call0_v0_apply,
    val_main_v12_apply, val_main_v11_apply, val_main_v10_apply, val_main_v9_apply, val_main_v8_apply, val_main_cst_apply]
  have hz : ∀ x : Fin 16, idx_main_v8 (lidx_main_v9 (ix3 a r ⟨128 * h.val + k.val, by omega⟩) x) = ix3 a r ⟨16 + x.val, by omega⟩ :=
    fun x => by idx_ext
  have hw : ∀ x : Fin 16, ridx_main_v9 (ix3 a r ⟨128 * h.val + k.val, by omega⟩) x = ix2 x ⟨128 * h.val + k.val, by omega⟩ :=
    fun x => by idx_ext
  have hb : idx_main_v10 (idx_main_v11 (ix3 a r ⟨128 * h.val + k.val, by omega⟩)) = ix1 ⟨128 * h.val + k.val, by omega⟩ := by idx_ext
  simp only [hz, hw, hb]
  pointwise
  rfl

open Cert.CtxBackRefIdeal.Read in
/-- The reference's running sum of the reversed gates. -/
theorem reference_cum (z : FVec Ideal S2x256x128 .f32) (w : FVec Ideal S16x512 .f32) (b : FVec Ideal S512 .f32)
    (a : Fin 2) (h : Fin 4) (r : Fin 256) (k : Fin 128) :
    val_main_v21 (F := Ideal) z w b (ix4 a h r k) =
      cum (fun i => ∑ j : Fin 16, z (ix3 a i.rev ⟨16 + j.val, by omega⟩) * w (ix2 j ⟨128 * h.val + k.val, by omega⟩)
        + b (ix1 ⟨128 * h.val + k.val, by omega⟩)) r := by
  unfold val_main_v21 cum
  refine (cumsum_apply (by decide) _ _ _ _ ?_ a h r k).trans (Finset.sum_congr rfl fun i _ => ?_)
  · rw [val_main_call4_call0_v0_apply, val_main_call4_call0_cst_apply]
    show Ideal.ofBits .f32 0x00000000#32 = 0
    simp [Ideal.ofBits, Ideal.ieee]
  · unfold val_main_v20
    rw [flip_apply, reference_gate]

open Cert.CtxBackRefIdeal.Read in
/-- The reference's result at one index. -/
theorem reference_at (p : FVec Ideal S2x256x3072 .bf16) (z : FVec Ideal S2x256x128 .f32) (w : FVec Ideal S16x512 .f32)
    (b : FVec Ideal S512 .f32) (a : Fin 2) (h : Fin 4) (v : Fin 256) (k : Fin 128) :
    val_main_v28 (F := Ideal) p z w b (ix4 a h v k) =
      state (fun r => p (ix3 a r.rev ⟨1024 + (256 * h.val + v.val), by omega⟩))
        (fun r => p (ix3 a r.rev ⟨512 + (128 * h.val + k.val), by omega⟩))
        (fun r => ∑ j : Fin 16, z (ix3 a r.rev ⟨16 + j.val, by omega⟩) * w (ix2 j ⟨128 * h.val + k.val, by omega⟩)
          + b (ix1 ⟨128 * h.val + k.val, by omega⟩)) := by
  rw [val_main_v28_apply, val_main_v27_apply]
  unfold state
  refine Finset.sum_congr rfl fun r _ => ?_
  have hlast : idx_main_v22 (idx_main_v23 (ix4 a h r k)) = ix4 a h (255 : Fin 256) k := by idx_ext
  have hrow : lidx_main_v27 (idx_main_v28 (ix4 a h v k)) r = ix4 a h r k := by idx_ext
  have hcol : ridx_main_v27 (idx_main_v28 (ix4 a h v k)) r = ix4 a h r v := by idx_ext
  have hkey : idx_main_v0 (idx_main_v1 (idx_main_v2 (ix4 a h r.rev k))) = ix3 a r.rev ⟨512 + (128 * h.val + k.val), by omega⟩ := by idx_ext
  have hval : idx_main_v4 (idx_main_v5 (idx_main_v6 (ix4 a h r.rev v))) = ix3 a r.rev ⟨1024 + (256 * h.val + v.val), by omega⟩ := by
    idx_ext
  rw [hrow, hcol, val_main_v26_apply, val_main_v25_apply, val_main_v24_apply, val_main_v23_apply, val_main_v22_apply, hlast,
    reference_cum, reference_cum]
  unfold val_main_v18 val_main_v19
  rw [flip_apply, flip_apply]
  simp only [val_main_v3_apply, val_main_v2_apply, val_main_v1_apply, val_main_v0_apply, val_main_v7_apply, val_main_v6_apply,
    val_main_v5_apply, val_main_v4_apply, hkey, hval]
  exact mul_comm _ _

open Cert.CtxBackRefIdeal.Read in
/-- The reference's result is the same function of its arguments. -/
theorem reference_eq (p : FVec Ideal S2x256x3072 .bf16) (z : FVec Ideal S2x256x128 .f32) (w : FVec Ideal S16x512 .f32)
    (b : FVec Ideal S512 .f32) : val_main_v28 (F := Ideal) p z w b = G p z w b := by
  funext i
  have hi : i = ix4 (i 0) (i 1) (i 2) (i 3) := by idx_ext
  exact (congrArg _ hi).trans (reference_at p z w b (i 0) (i 1) (i 2) (i 3))

/-- The kernel's program and the reference end with equal results. -/
theorem algebraic : Cert.algebraic_CtxBackIdeal_CtxBackRefIdeal := by
  intro m ρ m' ρ' _ hagree
  refine ⟨fun c => G (m ((c : Thread nD τ).loc main_arg0)) (m ((c : Thread nD τ).loc main_arg1)) (m ((c : Thread nD τ).loc main_arg2))
        (m ((c : Thread nD τ).loc main_arg3)), ?_, ?_⟩
  · exact (θ_run Cert.CtxBackIdeal.defs _ _).mono
      (fun _ h c => ⟨(h c).1.trans (final m c), (h c).2⟩)
      (Value.run_blocks (F := Ideal) m ρ)
  · refine (θ_run Cert.CtxBackRefIdeal.defs _ _).mono (fun _ h c => ⟨(h c).1.trans ?_, (h c).2⟩)
      (Cert.CtxBackRefIdeal.Value.run (F := Ideal) m' ρ')
    rw [Cert.CtxBackRefIdeal.Read.val_main_v28_eq, (hagree c).1, (hagree c).2.1, (hagree c).2.2.1, (hagree c).2.2.2]
    exact reference_eq _ _ _ _

/-- The kernel's program and its idealized form call the same body at every grid point. -/
theorem bodies_eq : Cert.CtxBack.defs₀ (F := Bits) = Cert.CtxBackIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_CtxBack := by
  intro m ρ _
  rw [show Cert.CtxBack.defs (F := Bits) = Cert.CtxBackIdeal.defs (F := Bits) from
    congrArg (Pipeline.defs (Cert.CtxBackIdeal.pcfgs (F := Bits))) bodies_eq]
  exact Cert.CtxBackIdeal.Gen.frame (F := Bits) m ρ

/-- The same of the idealized program. -/
theorem frame_ideal : Cert.quiescent_CtxBackIdeal := fun m ρ _ => Cert.CtxBackIdeal.Gen.frame m ρ

/-- The same of the reference, which declares no semaphore. -/
theorem frame_reference : Cert.quiescent_CtxBackRefIdeal := fun m ρ _ =>
  (θ_run Cert.CtxBackRefIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.CtxBackRefIdeal.Value.run (F := Ideal) m ρ)

end Cert.CtxBackIdeal.Layer
-- ==== Proof.AdaLayer.lean ====
module

public import proofs.«01_k».proof.Defs
public import proofs.«01_k».proof.Proof.Gen.AdaIdeal.Value
public import proofs.«01_k».proof.Proof.Gen.AdaRefIdeal.Read
public import proofs.«01_k».proof.Proof.Gen.AdaRefIdeal
public import proofs.«01_k».proof.Proof.Gen.Ada
public import Idealize.ShloMosaic.Lib.Pipeline.ValueKit
public import Idealize.ShloMosaic.Lib.Pointwise

@[expose] public section

set_option maxRecDepth 16384

noncomputable section

namespace Cert.AdaIdeal.Layer

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The modulation product of one row: the activation of the row against a column, plus the bias. -/
def modulation (c w : Fin 2048 → EReal) (b : EReal) : EReal :=
  ∑ k : Fin 2048, c k * Ideal.logistic (c k) * w k + b

/-- One block of modulation vectors. -/
theorem block_apply (x0 : Vec Ideal S8x2048 .f32) (x1 : Vec Ideal S1x2048x1024 .f32) (x2 : Vec Ideal S1x1x1024 .f32) (y : S1x8x1024.Idx) :
    out0_3 x0 x1 x2 y = modulation (fun k => x0 (ix2 (y 1) k)) (fun k => x1 (ix3 0 k (y 2))) (x2 (ix3 0 0 (y 2))) := by
  unfold out0_3
  canon_tiles x h
  all_goals
    unfold_payloads
    unfold modulation
    pointwise
    blk_point []

/-- The modulation vectors on the whole arrays, index by index. -/
def G (c : FVec Ideal S8x2048 .f32) (w : FVec Ideal S2x2048x12288 .f32) (b : FVec Ideal S2x12288 .f32) : FVec Ideal S2x8x12288 .f32 :=
  fun i => modulation (fun k => c (ix2 (i 1) k)) (fun k => w (ix3 (i 0) k (i 2))) (b (ix2 (i 0) (i 2)))

theorem index0 : ∀ t : Fin cfg0.N, win0_0.index t = ![0, 0] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 0).val, 0, (grid0.coords t 1).val] :=
  (by decide +kernel : ∀ t : Fin grid0.N, _)

/-- The result array after the run is that function of the argument arrays. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, block_apply]
  unfold G
  refine congr (congr (congrArg modulation (funext fun k => ?_)) (funext fun k => ?_)) ?_
  · blk_point [iblk, V_main_arg0, index0 t, index3 t]
  · blk_point [iblk, V_main_arg1, index1 t, index3 t]
  · blk_simp [iblk]
    entry_read
    pointwise
    blk_point [index2 t, index3 t]

open Cert.AdaRefIdeal.Read in
/-- The reference's result is the same function of its arguments. -/
theorem reference_eq (c : FVec Ideal S8x2048 .f32) (w : FVec Ideal S2x2048x12288 .f32) (b : FVec Ideal S2x12288 .f32) :
    val_main_v19 (F := Ideal) c w b = G c w b := by
  rw [← val_main_v19_eq]
  funext i
  unfold G modulation
  pointwise
  split
  · have h : i 0 = (0 : Fin 2) := Fin.ext (by show (i 0).val = 0; omega)
    rw [h]
    rfl
  · have h : i 0 = (1 : Fin 2) := Fin.ext (by have : (i 0).val < 2 := (i 0).isLt; show (i 0).val = 1; omega)
    rw [h]
    rfl

/-- The kernel's program and the reference end with equal results. -/
theorem algebraic : Cert.algebraic_AdaIdeal_AdaRefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.AdaIdeal.defs _ _).mono
      (fun _ h c => ⟨(h c).1.trans (final m c), (h c).2⟩)
      (Value.run_blocks (F := Ideal) m ρ)
  · refine (θ_run Cert.AdaRefIdeal.defs _ _).mono (fun _ h c => ⟨(h c).1.trans ?_, (h c).2⟩)
      (Cert.AdaRefIdeal.Value.run (F := Ideal) m' ρ')
    rw [(hagree c).1, (hagree c).2.1, (hagree c).2.2]
    exact reference_eq _ _ _

/-- The kernel's program and its idealized form call the same body at every grid point. -/
theorem bodies_eq : Cert.Ada.defs₀ (F := Bits) = Cert.AdaIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_Ada := by
  intro m ρ _
  rw [show Cert.Ada.defs (F := Bits) = Cert.AdaIdeal.defs (F := Bits) from
    congrArg (Pipeline.defs (Cert.AdaIdeal.pcfgs (F := Bits))) bodies_eq]
  exact Cert.AdaIdeal.Gen.frame (F := Bits) m ρ

/-- The same of the idealized program. -/
theorem frame_ideal : Cert.quiescent_AdaIdeal := fun m ρ _ => Cert.AdaIdeal.Gen.frame m ρ

/-- The same of the reference, which declares no semaphore. -/
theorem frame_reference : Cert.quiescent_AdaRefIdeal := fun m ρ _ =>
  (θ_run Cert.AdaRefIdeal.defs _ _).mono (fun r h => ⟨fun c => ⟨(h c).2.1, (h c).2.2.1, (h c).2.2.2⟩,
      Idealize.ShloMosaic.sem_eq_zero_of_no_sems (by decide) r.2⟩)
    (Cert.AdaRefIdeal.Value.run (F := Ideal) m ρ)

end Cert.AdaIdeal.Layer
-- ==== Proof.DftALayer.lean ====
module

public import proofs.«01_k».proof.Defs
public import proofs.«01_k».proof.Proof.Gen.DftAIdeal.Value
public import proofs.«01_k».proof.Proof.Gen.DftARefIdeal.Read
public import proofs.«01_k».proof.Proof.Gen.DftARefIdeal
public import proofs.«01_k».proof.Proof.Gen.DftA
public import Idealize.ShloMosaic.Lib.Pipeline.ValueKit
public import Idealize.ShloMosaic.Lib.Pointwise

@[expose] public section

set_option maxRecDepth 16384

noncomputable section

namespace Cert.DftAIdeal.Layer

open Cert.DftAIdeal Cert.DftAIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The real column of a pair of columns. -/
abbrev left (l : Fin 1024) : Fin 2048 := ⟨l.val, by omega⟩
/-- The imaginary column of a pair of columns. -/
abbrev right (l : Fin 1024) : Fin 2048 := ⟨1024 + l.val, by omega⟩
/-- The upper row of a pair of rows. -/
abbrev upper (k : Fin 128) : Fin 256 := ⟨k.val, by omega⟩
/-- The lower row of a pair of rows. -/
abbrev lower (k : Fin 128) : Fin 256 := ⟨128 + k.val, by omega⟩
/-- Row `k` of part `p`: the real rows come first, the imaginary rows second. -/
abbrev stacked (p : Fin 2) (k : Fin 128) : Fin 256 := ⟨128 * p.val + k.val, by omega⟩

/-- One block of the first stage. -/
theorem block_apply (x0 : Vec Ideal S1x128x8x2048 .f32) (x1 : Vec Ideal S256x256 .bf16) (y : S1x2x8x128x1024.Idx) :
    out0_2 x0 x1 y
      = ∑ k : Fin 128, x1 (ix2 (stacked (y 1) (y 3)) (upper k)) * x0 (ix4 0 k (y 2) (left (y 4)))
        + ∑ k : Fin 128, x1 (ix2 (stacked (y 1) (y 3)) (lower k)) * x0 (ix4 0 k (y 2) (right (y 4))) := by
  unfold out0_2
  canon_tiles x h
  all_goals
    unfold_payloads
    pointwise
    blk_point []

/-- One output of the first stage, from a row of each table and the real and imaginary columns. -/
def pair (a b re im : Fin 128 → EReal) : EReal := ∑ k : Fin 128, a k * re k + ∑ k : Fin 128, b k * im k

/-- Position `128 k + n` of the sequence. -/
abbrev pos (k n : Fin 128) : Fin 16384 := ⟨k.val * 128 + n.val, by omega⟩

/-- The first stage on the whole arrays: at each frequency of the leading digit, its real and its imaginary part. -/
def G (z : FVec Ideal S2x16384x2048 .f32) (c s : FVec Ideal S128x128 .f32) : FVec Ideal S2x2x128x128x1024 .f32 :=
  fun i => if (i 1).val = 0
    then pair (fun k => c (ix2 (i 3) k)) (fun k => s (ix2 (i 3) k))
      (fun k => z (ix3 (i 0) (pos k (i 2)) (left (i 4)))) (fun k => z (ix3 (i 0) (pos k (i 2)) (right (i 4))))
    else pair (fun k => - s (ix2 (i 3) k)) (fun k => c (ix2 (i 3) k))
      (fun k => z (ix3 (i 0) (pos k (i 2)) (left (i 4)))) (fun k => z (ix3 (i 0) (pos k (i 2)) (right (i 4))))

theorem index0 : ∀ t : Fin cfg0.N, win0_0.index t = ![(grid0.coords t 0).val, 0, (grid0.coords t 1).val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![(grid0.coords t 0).val, 0, (grid0.coords t 1).val, 0, 0] :=
  (by decide +kernel : ∀ t : Fin grid0.N, _)

/-- The two tables as the call takes them: `[c s]` above `[-s c]`. -/
def table (c s : FVec Ideal S128x128 .f32) : FVec Ideal S256x256 .bf16 :=
  truncf .bf16 (concatenate S256x256 0
    [⟨S128x256, (concatenate S128x256 1 [⟨S128x128, c⟩, ⟨S128x128, s⟩] concatenates_S128x128_S128x128_S128x256_d1 : FVec Ideal S128x256 .f32)⟩,
     ⟨S128x256, (concatenate S128x256 1 [⟨S128x128, (Host.negf s : FVec Ideal S128x128 .f32)⟩, ⟨S128x128, c⟩] concatenates_S128x128_S128x128_S128x256_d1 : FVec Ideal S128x256 .f32)⟩]
    concatenates_S128x256_S128x256_S256x256_d0 : FVec Ideal S256x256 .f32) bitsLt_bf16_f32

/-- Its upper columns. -/
theorem table_upper (c s : FVec Ideal S128x128 .f32) (p : Fin 2) (j k : Fin 128) :
    table c s (ix2 (stacked p j) (upper k)) = if p.val = 0 then c (ix2 j k) else - s (ix2 j k) := by
  unfold table
  pointwise
  match p with
  | 0 =>
    refine (dif_pos (show 128 * 0 + j.val < 128 by omega)).trans (Eq.trans ?_ (if_pos rfl).symm)
    blk_point []
  | 1 =>
    refine (dif_neg (show ¬ 128 * 1 + j.val < 128 by omega)).trans (Eq.trans ?_ (if_neg (show ¬ (1 : Nat) = 0 by decide)).symm)
    blk_point []

/-- Its lower columns. -/
theorem table_lower (c s : FVec Ideal S128x128 .f32) (p : Fin 2) (j k : Fin 128) :
    table c s (ix2 (stacked p j) (lower k)) = if p.val = 0 then s (ix2 j k) else c (ix2 j k) := by
  unfold table
  pointwise
  match p with
  | 0 =>
    refine (dif_pos (show 128 * 0 + j.val < 128 by omega)).trans (Eq.trans ?_ (if_pos rfl).symm)
    blk_point []
  | 1 =>
    refine (dif_neg (show ¬ 128 * 1 + j.val < 128 by omega)).trans (Eq.trans ?_ (if_neg (show ¬ (1 : Nat) = 0 by decide)).symm)
    blk_point []

/-- The table when the call starts. -/
theorem V_main_v4 (c : Dev nD) : V m c main_v4 = table (m ((c : Thread nD τ).loc main_arg1)) (m ((c : Thread nD τ).loc main_arg2)) := by
  unfold V
  simp only [hostOps0, List.flatten_cons, List.flatten_nil, List.append_nil, List.cons_append, List.nil_append]
  after_results
  try rfl

/-- The sequence when the call starts. -/
theorem V_main_v5 (c : Dev nD) : V m c main_v5 = shapeCast S2x128x128x2048
    (m ((c : Thread nD τ).loc main_arg0)) shapeCasts_S2x16384x2048_S2x128x128x2048 := by
  unfold V
  simp only [hostOps0, List.flatten_cons, List.flatten_nil, List.append_nil, List.cons_append, List.nil_append]
  after_results
  try rfl

/-- The sequence read by its two digits. -/
theorem digits (z : FVec Ideal S2x16384x2048 .f32) (b : Fin 2) (k n : Fin 128) (l : Fin 2048) :
    shapeCast S2x128x128x2048 z shapeCasts_S2x16384x2048_S2x128x128x2048 (ix4 b k n l) = z (ix3 b (pos k n) l) := by
  pointwise

/-- The first window's block: the positions of the launch's eight trailing digits. -/
theorem block0 (c : Dev nD) (t : Fin cfg0.N) (k : Fin 128) (n : Fin 8) (l : Fin 2048) :
    iblk m c 0 t (ix4 0 k n l) = (m ((c : Thread nD τ).loc main_arg0) : FVec Ideal S2x16384x2048 .f32)
      (ix3 ⟨(grid0.coords t 0).val, show (grid0.coords t 0).val < 2 from (grid0.coords t 0).isLt⟩ (pos k ⟨8 * (grid0.coords t 1).val + n.val, by
        have : (grid0.coords t 1).val < 16 := (grid0.coords t 1).isLt
        omega⟩) l) := by
  rw [← digits (m ((c : Thread nD τ).loc main_arg0))]
  blk_simp [iblk]
  rw [V_main_v5]
  generalize shapeCast _ _ _ = w
  blk_point [index0 t]

/-- The second window's block: the whole table. -/
theorem block1 (c : Dev nD) (t : Fin cfg0.N) (j k : Fin 256) :
    iblk m c 1 t (ix2 j k) = table (m ((c : Thread nD τ).loc main_arg1)) (m ((c : Thread nD τ).loc main_arg2)) (ix2 j k) := by
  blk_simp [iblk]
  rw [V_main_v4]
  generalize table _ _ = w
  blk_point [index1 t]

/-- The result array after the run is that function of the argument arrays. -/
theorem final (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, block_apply]
  simp only [block0, block1, table_upper, table_lower]
  unfold G pair
  have e1 : (((View.whole main_v6).slice (win0_2.rect t)).emb y 1).val = (y 1).val := by
    blk_simp [index2 t]
  have e2 : (((View.whole main_v6).slice (win0_2.rect t)).emb y 2).val = 8 * (grid0.coords t 1).val + (y 2).val := by
    blk_simp [index2 t]
    omega
  have e4 : (((View.whole main_v6).slice (win0_2.rect t)).emb y 4).val = (y 4).val := by
    blk_simp [index2 t]
  rw [e1]
  by_cases h : (y 1).val = 0
  · rw [if_pos h]
    refine congrArg₂ (· + ·) (Finset.sum_congr rfl fun k _ => ?_) (Finset.sum_congr rfl fun k _ => ?_)
    · refine congrArg₂ (· * ·) (((table_upper _ _ (y 1) (y 3) k).trans (if_pos h)).trans ?_) ((block0 m c t k (y 2) (left (y 4))).trans ?_)
      · beta_reduce
        blk_point [index2 t]
      · beta_reduce
        blk_point [index2 t] <;> omega
    · refine congrArg₂ (· * ·) (((table_lower _ _ (y 1) (y 3) k).trans (if_pos h)).trans ?_) ((block0 m c t k (y 2) (right (y 4))).trans ?_)
      · beta_reduce
        blk_point [index2 t]
      · beta_reduce
        blk_point [index2 t] <;> omega
  · rw [if_neg h]
    refine congrArg₂ (· + ·) (Finset.sum_congr rfl fun k _ => ?_) (Finset.sum_congr rfl fun k _ => ?_)
    · refine congrArg₂ (· * ·) (((table_upper _ _ (y 1) (y 3) k).trans (if_neg h)).trans ?_) ((block0 m c t k (y 2) (left (y 4))).trans ?_)
      · beta_reduce
        blk_point [index2 t]
      · beta_reduce
        blk_point [index2 t] <;> omega
    · refine congrArg₂ (· * ·) (((table_lower _ _ (y 1) (y 3) k).trans (if_neg h)).trans ?_) ((block0 m c t k (y 2) (right (y 4))).trans ?_)
      · beta_reduce
        blk_point [index2 t]
      · beta_reduce
        blk_point [index2 t] <;> omega

open Cert.DftARefIdeal.Read in
/-- The reference's result is the same function of its arguments. -/
theorem reference_eq (z : FVec Ideal S2x16384x2048 .f32) (c s : FVec Ideal S128x128 .f32) :
    val_main_v16 (F := Ideal) z c s = G z c s := by
  rw [← val_main_v16_eq]
  funext i
  unfold G pair
  pointwise
  split
  · rw [if_pos (by omega)]
    exact congrArg₂ (· + ·) (Finset.sum_congr rfl fun k _ => mul_comm _ _) (Finset.sum_congr rfl fun k _ => mul_comm _ _)
  · rw [if_neg (by omega)]
    exact congrArg₂ (· + ·) (Finset.sum_congr rfl fun k _ => mul_comm _ _) (Finset.sum_congr rfl fun k _ => mul_comm _ _)

/-- The kernel's program and the reference end with equal results. -/
theorem algebraic : Cert.algebraic_DftAIdeal_DftARefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.DftAIdeal.defs _ _).mono
      (fun _ h c => ⟨(h c).1.trans (final m c), (h c).2⟩)
      (Value.run_blocks (F := Ideal) m ρ)
  · refine (θ_run Cert.DftARefIdeal.defs _ _).mono (fun _ h c => ⟨(h c).1.trans ?_, (h c).2⟩)
      (Cert.DftARefIdeal.Value.run (F := Ideal) m' ρ')
    rw [(hagree c).1, (hagree c).2.1, (hagree c).2.2]
    exact reference_eq _ _ _

/-- The kernel's program and its idealized form call the same body at every grid point. -/
theorem bodies_eq : Cert.DftA.defs₀ (F := Bits) = Cert.DftAIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_DftA := by
  intro m ρ _
  rw [show Cert.DftA.defs (F := Bits) = Cert.DftAIdeal.defs (F := Bits) from
    congrArg (Pipeline.defs (Cert.DftAIdeal.pcfgs (F := Bits))) bodies_eq]
  exact Cert.DftAIdeal.Gen.frame (F := Bits) m ρ

/-- The same of the idealized program. -/
theorem frame_ideal : Cert.quiescent_DftAIdeal := fun m ρ _ => Cert.DftAIdeal.Gen.frame m ρ

/-- The same of the reference, which declares no semaphore. -/
theorem frame_reference : Cert.quiescent_DftARefIdeal := fun m ρ _ =>
  (θ_run Cert.DftARefIdeal.defs _ _).mono (fun r h => ⟨fun c => ⟨(h c).2.1, (h c).2.2.1, (h c).2.2.2⟩,
      Idealize.ShloMosaic.sem_eq_zero_of_no_sems (by decide) r.2⟩)
    (Cert.DftARefIdeal.Value.run (F := Ideal) m ρ)

end Cert.DftAIdeal.Layer
-- ==== Proof.DftBLayer.lean ====
module

public import proofs.«01_k».proof.Defs
public import proofs.«01_k».proof.Proof.Gen.DftBIdeal.Value
public import proofs.«01_k».proof.Proof.Gen.DftBRefIdeal.Read
public import proofs.«01_k».proof.Proof.Gen.DftBRefIdeal
public import proofs.«01_k».proof.Proof.Gen.DftB
public import Idealize.ShloMosaic.Lib.Pipeline.ValueKit
public import Idealize.ShloMosaic.Lib.Pointwise

@[expose] public section

set_option maxRecDepth 16384

noncomputable section

namespace Cert.DftBIdeal.Layer

open Cert.DftBIdeal Cert.DftBIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The upper column of a pair of columns. -/
abbrev upper (k : Fin 128) : Fin 256 := ⟨k.val, by omega⟩
/-- The lower column of a pair of columns. -/
abbrev lower (k : Fin 128) : Fin 256 := ⟨128 + k.val, by omega⟩

/-- One block of the second stage. -/
theorem block_apply (x0 : Vec Ideal S1x2x128x8x1024 .f32) (x1 : Vec Ideal S8x128x256 .bf16) (y : S1x128x8x1024.Idx) :
    out0_2 x0 x1 y
      = ∑ k : Fin 128, x1 (ix3 (y 2) (y 1) (upper k)) * x0 (ix5 0 0 k (y 2) (y 3))
        + ∑ k : Fin 128, x1 (ix3 (y 2) (y 1) (lower k)) * x0 (ix5 0 1 k (y 2) (y 3)) := by
  unfold out0_2
  canon_tiles x h
  all_goals
    unfold_payloads
    pointwise
    blk_point []

/-- The orthonormal transform's factor. -/
def norm : EReal := Ideal.ofBits .f32 0x3A000000#32

/-- It is the inverse of the square root of the number of transformed entries. -/
theorem norm_eq : norm = (((1 : ℝ) / 2048 : ℝ) : EReal) := by
  unfold norm
  simp [Ideal.ofBits, Ideal.ieee]
  norm_num
  rw [← EReal.coe_mul]
  norm_num

/-- The factor distributes over a sum of two. -/
theorem norm_add (a b : EReal) : norm * (a + b) = norm * a + norm * b := by
  rw [norm_eq]
  exact EReal.left_distrib_of_nonneg_of_ne_top (by exact_mod_cast (by norm_num : (0 : ℝ) ≤ 1 / 2048)) (EReal.coe_ne_top _) a b

/-- The factor distributes over a sum of products, into their first factors. -/
theorem norm_sum (s : Finset (Fin 128)) (a b : Fin 128 → EReal) :
    norm * ∑ k ∈ s, a k * b k = ∑ k ∈ s, (a k * norm) * b k := by
  induction s using Finset.cons_induction with
  | empty => simp
  | cons k s hk ih =>
    rw [Finset.sum_cons, Finset.sum_cons, norm_add, ih, mul_comm (a k) norm, mul_assoc]

/-- One output of the second stage, from a row of each table and the real and imaginary columns. -/
def pair (a b re im : Fin 128 → EReal) : EReal := ∑ k : Fin 128, a k * re k + ∑ k : Fin 128, b k * im k

/-- The factor on the tables is the factor on the output. -/
theorem norm_pair (a b re im : Fin 128 → EReal) :
    pair (fun k => a k * norm) (fun k => b k * norm) re im = norm * pair a b re im := by
  unfold pair
  rw [norm_add, norm_sum, norm_sum]

/-- The second stage on the whole arrays: the real part at each frequency. -/
def G (a : FVec Ideal S2x2x128x128x1024 .f32) (c s : FVec Ideal S128x128x128 .f32) : FVec Ideal S2x128x128x1024 .f32 :=
  fun i => norm * pair (fun k => c (ix3 (i 2) (i 1) k)) (fun k => s (ix3 (i 2) (i 1) k))
    (fun k => a (ix5 (i 0) 0 k (i 2) (i 3))) (fun k => a (ix5 (i 0) 1 k (i 2) (i 3)))

theorem index0 : ∀ t : Fin cfg0.N, win0_0.index t = ![(grid0.coords t 0).val, 0, 0, (grid0.coords t 1).val, 0] :=
  (by decide +kernel : ∀ t : Fin grid0.N, _)
theorem index1 : ∀ t : Fin cfg0.N, win0_1.index t = ![(grid0.coords t 1).val, 0, 0] :=
  (by decide +kernel : ∀ t : Fin grid0.N, _)
theorem index2 : ∀ t : Fin cfg0.N, win0_2.index t = ![(grid0.coords t 0).val, 0, (grid0.coords t 1).val, 0] :=
  (by decide +kernel : ∀ t : Fin grid0.N, _)

/-- The two tables as the call takes them: side by side, with the factor. -/
def table (c s : FVec Ideal S128x128x128 .f32) : FVec Ideal S128x128x256 .bf16 :=
  truncf .bf16 (mulf (concatenate S128x128x256 2 [⟨S128x128x128, c⟩, ⟨S128x128x128, s⟩] concatenates_S128x128x128_S128x128x128_S128x128x256_d2
      : FVec Ideal S128x128x256 .f32)
    (broadcastInDim S128x128x256 ![] bcast_S_S128x128x256 (constant S_ .f32 0x3A000000#32)) : FVec Ideal S128x128x256 .f32) bitsLt_bf16_f32

/-- Its upper columns. -/
theorem table_upper (c s : FVec Ideal S128x128x128 .f32) (i j k : Fin 128) :
    table c s (ix3 i j (upper k)) = c (ix3 i j k) * norm := by
  unfold table norm
  pointwise

/-- Its lower columns. -/
theorem table_lower (c s : FVec Ideal S128x128x128 .f32) (i j k : Fin 128) :
    table c s (ix3 i j (lower k)) = s (ix3 i j k) * norm := by
  unfold table norm
  pointwise

/-- The table when the call starts. -/
theorem V_main_v3 (c : Dev nD) : V m c main_v3 = table (m ((c : Thread nD τ).loc main_arg1)) (m ((c : Thread nD τ).loc main_arg2)) := by
  unfold V
  simp only [hostOps0, List.flatten_cons, List.flatten_nil, List.append_nil, List.cons_append, List.nil_append]
  after_results
  try rfl

/-- The result array after the run is that function of the argument arrays. -/
theorem final (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, block_apply]
  unfold G
  rw [← norm_pair]
  unfold pair
  have e1 : (((View.whole main_v4).slice (win0_2.rect t)).emb y 1).val = (y 1).val := by
    blk_simp [index2 t]
  have e2 : (((View.whole main_v4).slice (win0_2.rect t)).emb y 2).val = 8 * (grid0.coords t 1).val + (y 2).val := by
    blk_simp [index2 t]
    omega
  refine congrArg₂ (· + ·) (Finset.sum_congr rfl fun k _ => ?_) (Finset.sum_congr rfl fun k _ => ?_)
  · refine congrArg₂ (· * ·) (Eq.trans ?_ (table_upper (m ((c : Thread nD τ).loc main_arg1)) (m ((c : Thread nD τ).loc main_arg2)) _ _ k)) ?_
    on_goal 2 => beta_reduce; blk_point [iblk, V_main_arg0, index0 t, index2 t]
    blk_simp [iblk]
    rw [V_main_v3]
    generalize table _ _ = w
    blk_point [index1 t, index2 t]
  · refine congrArg₂ (· * ·) (Eq.trans ?_ (table_lower (m ((c : Thread nD τ).loc main_arg1)) (m ((c : Thread nD τ).loc main_arg2)) _ _ k)) ?_
    on_goal 2 => beta_reduce; blk_point [iblk, V_main_arg0, index0 t, index2 t]
    blk_simp [iblk]
    rw [V_main_v3]
    generalize table _ _ = w
    blk_point [index1 t, index2 t]

open Cert.DftBRefIdeal.Read in
/-- The reference's result is the same function of its arguments. -/
theorem reference_eq (a : FVec Ideal S2x2x128x128x1024 .f32) (c s : FVec Ideal S128x128x128 .f32) :
    val_main_v10 (F := Ideal) a c s = G a c s := by
  rw [← val_main_v10_eq]
  funext i
  unfold G pair norm
  pointwise
  exact congrArg (_ * ·) (congrArg₂ (· + ·) (Finset.sum_congr rfl fun k _ => mul_comm _ _) (Finset.sum_congr rfl fun k _ => mul_comm _ _))

/-- The kernel's program and the reference end with equal results. -/
theorem algebraic : Cert.algebraic_DftBIdeal_DftBRefIdeal := by
  intro m ρ m' ρ' _ hagree
  refine ⟨fun c => G (m ((c : Thread nD τ).loc main_arg0)) (m ((c : Thread nD τ).loc main_arg1)) (m ((c : Thread nD τ).loc main_arg2)), ?_, ?_⟩
  · exact (θ_run Cert.DftBIdeal.defs _ _).mono
      (fun _ h c => ⟨(h c).1.trans (final m c), (h c).2⟩)
      (Value.run_blocks (F := Ideal) m ρ)
  · refine (θ_run Cert.DftBRefIdeal.defs _ _).mono (fun _ h c => ⟨(h c).1.trans ?_, (h c).2⟩)
      (Cert.DftBRefIdeal.Value.run (F := Ideal) m' ρ')
    rw [(hagree c).1, (hagree c).2.1, (hagree c).2.2]
    exact reference_eq _ _ _

/-- The kernel's program and its idealized form call the same body at every grid point. -/
theorem bodies_eq : Cert.DftB.defs₀ (F := Bits) = Cert.DftBIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_DftB := by
  intro m ρ _
  rw [show Cert.DftB.defs (F := Bits) = Cert.DftBIdeal.defs (F := Bits) from
    congrArg (Pipeline.defs (Cert.DftBIdeal.pcfgs (F := Bits))) bodies_eq]
  exact Cert.DftBIdeal.Gen.frame (F := Bits) m ρ

/-- The same of the idealized program. -/
theorem frame_ideal : Cert.quiescent_DftBIdeal := fun m ρ _ => Cert.DftBIdeal.Gen.frame m ρ

/-- The same of the reference, which declares no semaphore. -/
theorem frame_reference : Cert.quiescent_DftBRefIdeal := fun m ρ _ =>
  (θ_run Cert.DftBRefIdeal.defs _ _).mono (fun r h => ⟨fun c => ⟨(h c).2.1, (h c).2.2.1, (h c).2.2.2⟩,
      Idealize.ShloMosaic.sem_eq_zero_of_no_sems (by decide) r.2⟩)
    (Cert.DftBRefIdeal.Value.run (F := Ideal) m ρ)

end Cert.DftBIdeal.Layer
-- ==== Proof.FoldLayer.lean ====
module

public import proofs.«01_k».proof.Defs
public import proofs.«01_k».proof.Proof.Gen.FoldIdeal.Value
public import proofs.«01_k».proof.Proof.Gen.FoldRefIdeal.Read
public import proofs.«01_k».proof.Proof.Gen.FoldRefIdeal
public import proofs.«01_k».proof.Proof.Gen.Fold
public import Idealize.ShloMosaic.Lib.Pipeline.ValueKit
public import Idealize.ShloMosaic.Lib.Pointwise

@[expose] public section

set_option maxRecDepth 16384

noncomputable section

namespace Cert.FoldIdeal.Layer

open Cert.FoldIdeal Cert.FoldIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Neither infinity. -/
def IsReal (x : EReal) : Prop := x ≠ ⊤ ∧ x ≠ ⊥

/-- A product of a row and a column, each split into a part and its remainder, without the product of the remainders. -/
def split (a b : Fin 256 → EReal) : EReal :=
  ∑ k : Fin 256, a k * b k + ∑ k : Fin 256, a k * (b k - b k) + ∑ k : Fin 256, (a k - a k) * b k

/-- Where no entry is infinite the remainders are zero. -/
theorem split_eq (a b : Fin 256 → EReal) (ha : ∀ k, IsReal (a k)) (hb : ∀ k, IsReal (b k)) :
    split a b = ∑ k : Fin 256, a k * b k := by
  unfold split
  have h1 : ∀ k, b k - b k = 0 := fun k => EReal.sub_self (hb k).1 (hb k).2
  have h2 : ∀ k, a k - a k = 0 := fun k => EReal.sub_self (ha k).1 (ha k).2
  simp only [h1, h2, mul_zero, zero_mul, Finset.sum_const_zero, add_zero]

/-- The column of the real part. -/
abbrev left (l : Fin 256) : Fin 512 := ⟨l.val, by omega⟩
/-- The column of the imaginary part. -/
abbrev right (l : Fin 256) : Fin 512 := ⟨256 + l.val, by omega⟩

/-- One block of the real parts. -/
theorem block_re (x0 : Vec Ideal S2048x256 .f32) (x1 : Vec Ideal S256x512 .f32) (y : S2048x256.Idx) :
    out0_2 x0 x1 y = split (fun k => x0 (ix2 (y 0) k)) (fun k => x1 (ix2 k (left (y 1)))) := by
  unfold out0_2
  canon_tiles x h
  all_goals
    unfold_payloads
    unfold split
    pointwise
    blk_point []

/-- One block of the imaginary parts. -/
theorem block_im (x0 : Vec Ideal S2048x256 .f32) (x1 : Vec Ideal S256x512 .f32) (y : S2048x256.Idx) :
    out0_3 x0 x1 y = split (fun k => x0 (ix2 (y 0) k)) (fun k => x1 (ix2 k (right (y 1)))) := by
  unfold out0_3
  canon_tiles x h
  all_goals
    unfold_payloads
    unfold split
    pointwise
    blk_point []

/-- Column `k` of the group that column `l` belongs to. -/
abbrev grouped (l : Fin 1024) (k : Fin 256) : Fin 1024 := ⟨l.val / 256 * 256 + k.val, by omega⟩
/-- The place of column `l` within its group. -/
abbrev within (l : Fin 1024) : Fin 256 := ⟨l.val % 256, by omega⟩

/-- The product of the weights with one table, group by group. -/
def G (w : FVec Ideal S2048x1024 .f32) (t : FVec Ideal S256x256 .f32) : FVec Ideal S2048x1024 .bf16 :=
  fun i => ∑ k : Fin 256, w (ix2 (i 0) (grouped (i 1) k)) * t (ix2 k (within (i 1)))

/-- A table with its signs changed. -/
def negated (s : FVec Ideal S256x256 .f32) : FVec Ideal S256x256 .f32 := fun i => - s i

theorem index0 : ∀ t : Fin cfg0.N, win0_0.index t = ![0, (grid0.coords t 0).val] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, (grid0.coords t 0).val] :=
  (by decide +kernel : ∀ t : Fin grid0.N, _)
theorem index3 : ∀ t : Fin cfg0.N, win0_3.index t = ![0, (grid0.coords t 0).val] :=
  (by decide +kernel : ∀ t : Fin grid0.N, _)

/-- The two tables as the call takes them: the cosines beside the negated sines. -/
def table (c s : FVec Ideal S256x256 .f32) : FVec Ideal S256x512 .f32 :=
  concatenate S256x512 1 [⟨S256x256, c⟩, ⟨S256x256, (Host.negf s : FVec Ideal S256x256 .f32)⟩] concatenates_S256x256_S256x256_S256x512_d1

/-- Its left columns. -/
theorem table_left (c s : FVec Ideal S256x256 .f32) (k l : Fin 256) : table c s (ix2 k (left l)) = c (ix2 k l) := by
  unfold table
  pointwise

/-- Its right columns. -/
theorem table_right (c s : FVec Ideal S256x256 .f32) (k l : Fin 256) : table c s (ix2 k (right l)) = - s (ix2 k l) := by
  unfold table
  pointwise

/-- The table when the call starts. -/
theorem V_main_v1 (c : Dev nD) : V m c main_v1 = table (m ((c : Thread nD τ).loc main_arg1)) (m ((c : Thread nD τ).loc main_arg2)) := by
  unfold V
  simp only [hostOps0, List.flatten_cons, List.flatten_nil, List.append_nil, List.cons_append, List.nil_append]
  after_results
  try rfl

/-- The second window's block: the whole table. -/
theorem block1 (c : Dev nD) (t : Fin cfg0.N) (j : Fin 256) (k : Fin 512) :
    iblk m c 1 t (ix2 j k) = table (m ((c : Thread nD τ).loc main_arg1)) (m ((c : Thread nD τ).loc main_arg2)) (ix2 j k) := by
  blk_simp [iblk]
  rw [V_main_v1]
  generalize table _ _ = w
  blk_point [index1 t]

/-- The first window's block: one group of columns. -/
theorem block0 (c : Dev nD) (t : Fin cfg0.N) (r : Fin 2048) (k : Fin 256) :
    iblk m c 0 t (ix2 r k) = (m ((c : Thread nD τ).loc main_arg0) : FVec Ideal S2048x1024 .f32)
      (ix2 r ⟨(grid0.coords t 0).val * 256 + k.val, by have : (grid0.coords t 0).val < 4 := (grid0.coords t 0).isLt; omega⟩) := by
  blk_point [iblk, V_main_arg0, index0 t]

/-- Column `l` of the launch's group. -/
abbrev column (t : Fin cfg0.N) (l : Fin 256) : Fin 1024 :=
  ⟨(grid0.coords t 0).val * 256 + l.val, by have : (grid0.coords t 0).val < 4 := (grid0.coords t 0).isLt; omega⟩

/-- The product at one place of the launch's group. -/
theorem G_column (w : FVec Ideal S2048x1024 .f32) (u : FVec Ideal S256x256 .f32) (t : Fin cfg0.N) (r : Fin 2048) (l : Fin 256) :
    G w u (ix2 r (column t l)) = ∑ k : Fin 256, w (ix2 r (column t k)) * u (ix2 k l) := by
  unfold G
  refine Finset.sum_congr rfl fun k _ => congrArg₂ (· * ·) (congrArg w ?_) (congrArg u ?_)
  · refine congrArg (ix2 r) (Fin.ext ?_)
    show ((grid0.coords t 0).val * 256 + l.val) / 256 * 256 + k.val = (grid0.coords t 0).val * 256 + k.val
    omega
  · refine congrArg (ix2 k) (Fin.ext ?_)
    show ((grid0.coords t 0).val * 256 + l.val) % 256 = l.val
    omega

/-- The real part at one place, where no argument entry is infinite. -/
theorem entry_re (c : Dev nD) (t : Fin cfg0.N) (r : Fin 2048) (l : Fin 256) (w : FVec Ideal S2048x1024 .f32) (u s : FVec Ideal S256x256 .f32)
    (hw : ∀ i, IsReal (w i)) (hu : ∀ i, IsReal (u i)) (x : Fin 2048 → Fin 256 → EReal) (z : Fin 256 → Fin 512 → EReal)
    (hx : ∀ r k, x r k = w (ix2 r (column t k))) (hz : ∀ k l, z k l = table u s (ix2 k l)) :
    split (x r) (fun k => z k (left l)) = G w u (ix2 r (column t l)) := by
  have hz' : ∀ k, z k (left l) = u (ix2 k l) := fun k => (hz k _).trans (table_left u s k l)
  rw [split_eq _ _ (fun k => by rw [hx]; exact hw _) (fun k => by rw [hz']; exact hu _), G_column]
  exact Finset.sum_congr rfl fun k _ => congrArg₂ (· * ·) (hx r k) (hz' k)

/-- The imaginary part at one place, where no argument entry is infinite. -/
theorem entry_im (c : Dev nD) (t : Fin cfg0.N) (r : Fin 2048) (l : Fin 256) (w : FVec Ideal S2048x1024 .f32) (u s : FVec Ideal S256x256 .f32)
    (hw : ∀ i, IsReal (w i)) (hs : ∀ i, IsReal (s i)) (x : Fin 2048 → Fin 256 → EReal) (z : Fin 256 → Fin 512 → EReal)
    (hx : ∀ r k, x r k = w (ix2 r (column t k))) (hz : ∀ k l, z k l = table u s (ix2 k l)) :
    split (x r) (fun k => z k (right l)) = G w (negated s) (ix2 r (column t l)) := by
  have hz' : ∀ k, z k (right l) = - s (ix2 k l) := fun k => (hz k _).trans (table_right u s k l)
  rw [split_eq _ _ (fun k => by rw [hx]; exact hw _) (fun k => by
    rw [hz']
    exact ⟨fun h => (hs _).2 (EReal.neg_eq_top_iff.1 h), fun h => (hs _).1 (EReal.neg_eq_bot_iff.1 h)⟩), G_column]
  exact Finset.sum_congr rfl fun k _ => congrArg₂ (· * ·) (hx r k) (hz' k)

/-- The real parts after the run, where no argument entry is infinite. -/
theorem real_part (c : Dev nD) (hw : ∀ i, IsReal ((m ((c : Thread nD τ).loc main_arg0) : FVec Ideal S2048x1024 .f32) i))
    (hc : ∀ i, IsReal ((m ((c : Thread nD τ).loc main_arg1) : FVec Ideal S256x256 .f32) i)) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2, block_re]
  refine (entry_re c t (y 0) (y 1) (m ((c : Thread nD τ).loc main_arg0)) (m ((c : Thread nD τ).loc main_arg1))
    (m ((c : Thread nD τ).loc main_arg2)) hw hc (fun r k => iblk m c 0 t (ix2 r k)) (fun k l => iblk m c 1 t (ix2 k l))
    (fun r k => block0 m c t r k) (fun k l => block1 m c t k l)).trans ?_
  generalize G _ _ = g
  blk_point [index2 t]

/-- The imaginary parts after the run, where no argument entry is infinite. -/
theorem imaginary_part (c : Dev nD) (hw : ∀ i, IsReal ((m ((c : Thread nD τ).loc main_arg0) : FVec Ideal S2048x1024 .f32) i))
    (hs : ∀ i, IsReal ((m ((c : Thread nD τ).loc main_arg2) : FVec Ideal S256x256 .f32) i)) :
    (dats m 0 c).arrAt 3 cfg0.N = G (m ((c : Thread nD τ).loc main_arg0)) (negated (m ((c : Thread nD τ).loc main_arg2))) := by
  refine (dats m 0 c).arrAt_eq_of_covers 3 _ (by decide +kernel) fun t hf y => ?_
  blk_simp
  rw [after0_3, block_im]
  refine (entry_im c t (y 0) (y 1) (m ((c : Thread nD τ).loc main_arg0)) (m ((c : Thread nD τ).loc main_arg1))
    (m ((c : Thread nD τ).loc main_arg2)) hw hs (fun r k => iblk m c 0 t (ix2 r k)) (fun k l => iblk m c 1 t (ix2 k l))
    (fun r k => block0 m c t r k) (fun k l => block1 m c t k l)).trans ?_
  generalize G _ _ = g
  blk_point [index3 t]

open Cert.FoldRefIdeal.Read in
/-- The reference's first result is the same function of its arguments. -/
theorem reference_re (w : FVec Ideal S2048x1024 .f32) (c : FVec Ideal S256x256 .f32) :
    val_main_v3 (F := Ideal) w c = G w c := by
  rw [← val_main_v3_eq]
  funext i
  unfold G
  pointwise

open Cert.FoldRefIdeal.Read in
/-- The reference's second result is the same function of its arguments. -/
theorem reference_im (w : FVec Ideal S2048x1024 .f32) (s : FVec Ideal S256x256 .f32) :
    val_main_v7 (F := Ideal) w s = G w (negated s) := by
  rw [← val_main_v7_eq]
  funext i
  unfold G negated
  pointwise

/-- A magnitude below infinity is that of a number that is neither infinity. -/
theorem isReal_of_lt (x : Ideal .f32) (h : BitVec.ofBool (decide (FloatOps.absf x < Ideal.ofBits .f32 0x7F800000#32)) = 1#1) : IsReal x := by
  have ht : Ideal.ofBits .f32 0x7F800000#32 = (⊤ : EReal) := by simp [Ideal.ofBits, Ideal.ieee]
  have h' : max (x : EReal) (-x) < ⊤ := by
    by_contra hn
    rw [ht, show decide (FloatOps.absf x < (⊤ : EReal)) = false from decide_eq_false hn] at h
    exact absurd h (by decide)
  refine ⟨fun hx => ?_, fun hx => ?_⟩
  · rw [hx] at h'
    simp at h'
  · rw [hx] at h'
    simp at h'

/-- The precondition's side conditions. -/
instance facts_finite : Cert.Pre_finite.Facts := ⟨by decide, by decide⟩

/-- Under the precondition no entry of the arguments is infinite. -/
theorem real_args (h : Cert.Pre_FoldIdeal_finite m) (c : Dev nD) :
    (∀ i, IsReal ((m ((c : Thread nD τ).loc main_arg0) : FVec Ideal S2048x1024 .f32) i))
    ∧ (∀ i, IsReal ((m ((c : Thread nD τ).loc main_arg1) : FVec Ideal S256x256 .f32) i))
    ∧ (∀ i, IsReal ((m ((c : Thread nD τ).loc main_arg2) : FVec Ideal S256x256 .f32) i)) := by
  obtain ⟨h0, h1, h2⟩ := h c
  refine ⟨fun i => ?_, fun i => ?_, fun i => ?_⟩
  · exact isReal_of_lt _ (congrFun h0 i)
  · exact isReal_of_lt _ (congrFun h1 i)
  · exact isReal_of_lt _ (congrFun h2 i)

/-- The kernel's program and the reference end with equal results. -/
theorem algebraic : Cert.algebraic_FoldIdeal_FoldRefIdeal_pre_finite := by
  intro m ρ m' ρ' hpre hagree
  have hr := real_args m hpre
  refine ⟨fun c => G (m ((c : Thread nD τ).loc main_arg0)) (m ((c : Thread nD τ).loc main_arg1)),
    fun c => G (m ((c : Thread nD τ).loc main_arg0)) (negated (m ((c : Thread nD τ).loc main_arg2))), ?_, ?_⟩
  · exact (θ_run Cert.FoldIdeal.defs _ _).mono
      (fun _ h c => ⟨(h c).1.trans (real_part m c (hr c).1 (hr c).2.1), (h c).2.1.trans (imaginary_part m c (hr c).1 (hr c).2.2), (h c).2.2⟩)
      (Value.run_blocks (F := Ideal) m ρ)
  · refine (θ_run Cert.FoldRefIdeal.defs _ _).mono (fun _ h c => ⟨(h c).1.trans ?_, (h c).2.1.trans ?_, (h c).2.2⟩)
      (Cert.FoldRefIdeal.Value.run (F := Ideal) m' ρ')
    · rw [(hagree c).1, (hagree c).2.1, Cert.FoldRefIdeal.Read.val_main_v3_eq]
      exact reference_re _ _
    · rw [(hagree c).1, (hagree c).2.2, Cert.FoldRefIdeal.Read.val_main_v7_eq]
      exact reference_im _ _

/-- The kernel's program and its idealized form call the same body at every grid point. -/
theorem bodies_eq : Cert.Fold.defs₀ (F := Bits) = Cert.FoldIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_Fold := by
  intro m ρ _
  rw [show Cert.Fold.defs (F := Bits) = Cert.FoldIdeal.defs (F := Bits) from
    congrArg (Pipeline.defs (Cert.FoldIdeal.pcfgs (F := Bits))) bodies_eq]
  exact Cert.FoldIdeal.Gen.frame (F := Bits) m ρ

/-- The same of the idealized program. -/
theorem frame_ideal : Cert.quiescent_FoldIdeal := fun m ρ _ => Cert.FoldIdeal.Gen.frame m ρ

/-- The same of the reference, which declares no semaphore. -/
theorem frame_reference : Cert.quiescent_FoldRefIdeal := fun m ρ _ =>
  (θ_run Cert.FoldRefIdeal.defs _ _).mono (fun r h => ⟨fun c => ⟨(h c).2.2.1, (h c).2.2.2.1, (h c).2.2.2.2⟩,
      Idealize.ShloMosaic.sem_eq_zero_of_no_sems (by decide) r.2⟩)
    (Cert.FoldRefIdeal.Value.run (F := Ideal) m ρ)

/-- The idealized program's frame under the precondition. -/
theorem frame_ideal_finite : Cert.quiescent_FoldIdeal_pre_finite := fun m ρ _ => frame_ideal m ρ trivial

/-- The reference's frame under the precondition. -/
theorem frame_reference_finite : Cert.quiescent_FoldRefIdeal_pre_finite := fun m ρ _ => frame_reference m ρ trivial

end Cert.FoldIdeal.Layer
-- ==== Proof.GlaBwdLayer.lean ====
module

public import proofs.«01_k».proof.Defs
public import proofs.«01_k».proof.Proof.Gen.GlaBwdIdeal
public import proofs.«01_k».proof.Proof.Gen.GlaBwd
public import proofs.«01_k».proof.Proof.Gen.GlaBwdIdeal.Frame

@[expose] public section

noncomputable section

namespace Cert.GlaBwdIdeal.Layer

open Cert.GlaBwdIdeal Cert.GlaBwdIdeal.Gen Idealize.ShloMosaic Idealize.ShloMosaic.TcCoe Idealize.SL.Sem

/-- The kernel's program and its idealized form call the same body at every grid point. -/
theorem bodies_eq : Cert.GlaBwd.defs₀ (F := Bits) = Cert.GlaBwdIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_GlaBwd := by
  intro m ρ _
  rw [show Cert.GlaBwd.defs (F := Bits) = Cert.GlaBwdIdeal.defs (F := Bits) from
    congrArg (Pipeline.defs (Cert.GlaBwdIdeal.pcfgs (F := Bits))) bodies_eq]
  exact Cert.GlaBwdIdeal.Gen.frame (F := Bits) m ρ

/-- The same of the idealized program. -/
theorem frame_ideal : Cert.quiescent_GlaBwdIdeal := fun m ρ _ => Cert.GlaBwdIdeal.Gen.frame m ρ

end Cert.GlaBwdIdeal.Layer
-- ==== Proof.GlaFwdLayer.lean ====
module

public import proofs.«01_k».proof.Defs
public import proofs.«01_k».proof.Proof.Gen.GlaFwdIdeal
public import proofs.«01_k».proof.Proof.Gen.GlaFwd
public import proofs.«01_k».proof.Proof.Gen.GlaFwdIdeal.Frame

@[expose] public section

noncomputable section

namespace Cert.GlaFwdIdeal.Layer

open Cert.GlaFwdIdeal Cert.GlaFwdIdeal.Gen Idealize.ShloMosaic Idealize.ShloMosaic.TcCoe Idealize.SL.Sem

/-- The kernel's program and its idealized form call the same body at every grid point. -/
theorem bodies_eq : Cert.GlaFwd.defs₀ (F := Bits) = Cert.GlaFwdIdeal.defs₀ (F := Bits) :=
  congrArg Defs.onTc (funext fun l => funext fun x => match l, x with
    | 0, (_, _) => rfl
    | ⟨_ + 1, h⟩, _ => absurd h (Nat.not_lt.2 (Nat.le_add_left _ _)))

/-- The kernel's program at bit patterns ends with its arguments unchanged and nothing pending: its text is that of the idealized program. -/
theorem frame_kernel : Cert.quiescent_GlaFwd := by
  intro m ρ _
  rw [show Cert.GlaFwd.defs (F := Bits) = Cert.GlaFwdIdeal.defs (F := Bits) from
    congrArg (Pipeline.defs (Cert.GlaFwdIdeal.pcfgs (F := Bits))) bodies_eq]
  exact Cert.GlaFwdIdeal.Gen.frame (F := Bits) m ρ

/-- The same of the idealized program. -/
theorem frame_ideal : Cert.quiescent_GlaFwdIdeal := fun m ρ _ => Cert.GlaFwdIdeal.Gen.frame m ρ

end Cert.GlaFwdIdeal.Layer
-- ==== Proof.lean ====
/- The certificate's claim, from the calls' modules. -/
module

public import proofs.«01_k».proof.Defs
public import proofs.«01_k».proof.Proof.FfnInLayer
public import proofs.«01_k».proof.Proof.Gen.FfnIn
public import proofs.«01_k».proof.Proof.Gen.FfnInIdeal
public import proofs.«01_k».proof.Proof.Gen.FfnInRefIdeal
public import proofs.«01_k».proof.Proof.GluLayer
public import proofs.«01_k».proof.Proof.Gen.Glu
public import proofs.«01_k».proof.Proof.Gen.GluIdeal
public import proofs.«01_k».proof.Proof.Gen.GluRefIdeal
public import proofs.«01_k».proof.Proof.FinalLayer
public import proofs.«01_k».proof.Proof.Gen.Final
public import proofs.«01_k».proof.Proof.Gen.FinalIdeal
public import proofs.«01_k».proof.Proof.Gen.FinalRefIdeal
public import proofs.«01_k».proof.Proof.MidLayer
public import proofs.«01_k».proof.Proof.Gen.Mid
public import proofs.«01_k».proof.Proof.Gen.MidIdeal
public import proofs.«01_k».proof.Proof.Gen.MidRefIdeal
public import proofs.«01_k».proof.Proof.MixOutLayer
public import proofs.«01_k».proof.Proof.Gen.MixOut
public import proofs.«01_k».proof.Proof.Gen.MixOutIdeal
public import proofs.«01_k».proof.Proof.Gen.MixOutRefIdeal
public import proofs.«01_k».proof.Proof.CtxLayer
public import proofs.«01_k».proof.Proof.Gen.Ctx
public import proofs.«01_k».proof.Proof.Gen.CtxIdeal
public import proofs.«01_k».proof.Proof.Gen.CtxRefIdeal
public import proofs.«01_k».proof.Proof.CtxBackLayer
public import proofs.«01_k».proof.Proof.Gen.CtxBack
public import proofs.«01_k».proof.Proof.Gen.CtxBackIdeal
public import proofs.«01_k».proof.Proof.Gen.CtxBackRefIdeal
public import proofs.«01_k».proof.Proof.AdaLayer
public import proofs.«01_k».proof.Proof.Gen.Ada
public import proofs.«01_k».proof.Proof.Gen.AdaIdeal
public import proofs.«01_k».proof.Proof.Gen.AdaRefIdeal
public import proofs.«01_k».proof.Proof.DftALayer
public import proofs.«01_k».proof.Proof.Gen.DftA
public import proofs.«01_k».proof.Proof.Gen.DftAIdeal
public import proofs.«01_k».proof.Proof.Gen.DftARefIdeal
public import proofs.«01_k».proof.Proof.DftBLayer
public import proofs.«01_k».proof.Proof.Gen.DftB
public import proofs.«01_k».proof.Proof.Gen.DftBIdeal
public import proofs.«01_k».proof.Proof.Gen.DftBRefIdeal
public import proofs.«01_k».proof.Proof.FoldLayer
public import proofs.«01_k».proof.Proof.Gen.Fold
public import proofs.«01_k».proof.Proof.Gen.FoldIdeal
public import proofs.«01_k».proof.Proof.Gen.FoldRefIdeal
public import proofs.«01_k».proof.Proof.GlaBwdLayer
public import proofs.«01_k».proof.Proof.Gen.GlaBwd
public import proofs.«01_k».proof.Proof.Gen.GlaBwdIdeal
public import proofs.«01_k».proof.Proof.GlaFwdLayer
public import proofs.«01_k».proof.Proof.Gen.GlaFwd
public import proofs.«01_k».proof.Proof.Gen.GlaFwdIdeal
public import Idealize.ShloMosaic.Adequacy
public import Idealize.ShloMosaic.Init

@[expose] public section

noncomputable section

namespace Cert.Proof

open Idealize.ShloMosaic Idealize.SL.Sem Cert.FfnIn

theorem claim : Cert.Claim := ⟨Cert.FfnIn.Gen.facts, Cert.FfnInIdeal.Gen.facts, Cert.FfnInRefIdeal.Gen.facts, Cert.Glu.Gen.facts, Cert.GluIdeal.Gen.facts, Cert.GluRefIdeal.Gen.facts, Cert.Final.Gen.facts, Cert.FinalIdeal.Gen.facts, Cert.FinalRefIdeal.Gen.facts, Cert.Mid.Gen.facts, Cert.MidIdeal.Gen.facts, Cert.MidRefIdeal.Gen.facts, Cert.MixOut.Gen.facts, Cert.MixOutIdeal.Gen.facts, Cert.MixOutRefIdeal.Gen.facts, Cert.Ctx.Gen.facts, Cert.CtxIdeal.Gen.facts, Cert.CtxRefIdeal.Gen.facts, Cert.CtxBack.Gen.facts, Cert.CtxBackIdeal.Gen.facts, Cert.CtxBackRefIdeal.Gen.facts, Cert.Ada.Gen.facts, Cert.AdaIdeal.Gen.facts, Cert.AdaRefIdeal.Gen.facts, Cert.DftA.Gen.facts, Cert.DftAIdeal.Gen.facts, Cert.DftARefIdeal.Gen.facts, Cert.DftB.Gen.facts, Cert.DftBIdeal.Gen.facts, Cert.DftBRefIdeal.Gen.facts, Cert.Fold.Gen.facts, Cert.FoldIdeal.Gen.facts, Cert.FoldRefIdeal.Gen.facts, Cert.GlaBwd.Gen.facts, Cert.GlaBwdIdeal.Gen.facts, Cert.GlaFwd.Gen.facts, Cert.GlaFwdIdeal.Gen.facts, Cert.FoldIdeal.Layer.facts_finite,
  Cert.FfnInIdeal.Layer.frame_kernel, Cert.FfnInIdeal.Layer.frame_ideal, Cert.FfnInIdeal.Layer.frame_reference,
  Cert.GluIdeal.Layer.frame_kernel, Cert.GluIdeal.Layer.frame_ideal, Cert.GluIdeal.Layer.frame_reference,
  Cert.FinalIdeal.Layer.frame_kernel, Cert.FinalIdeal.Layer.frame_ideal, Cert.FinalIdeal.Layer.frame_reference,
  Cert.MidIdeal.Layer.frame_kernel, Cert.MidIdeal.Layer.frame_ideal, Cert.MidIdeal.Layer.frame_reference,
  Cert.MixOutIdeal.Layer.frame_kernel, Cert.MixOutIdeal.Layer.frame_ideal, Cert.MixOutIdeal.Layer.frame_reference,
  Cert.CtxIdeal.Layer.frame_kernel, Cert.CtxIdeal.Layer.frame_ideal, Cert.CtxIdeal.Layer.frame_reference,
  Cert.CtxBackIdeal.Layer.frame_kernel, Cert.CtxBackIdeal.Layer.frame_ideal, Cert.CtxBackIdeal.Layer.frame_reference,
  Cert.AdaIdeal.Layer.frame_kernel, Cert.AdaIdeal.Layer.frame_ideal, Cert.AdaIdeal.Layer.frame_reference,
  Cert.DftAIdeal.Layer.frame_kernel, Cert.DftAIdeal.Layer.frame_ideal, Cert.DftAIdeal.Layer.frame_reference,
  Cert.DftBIdeal.Layer.frame_kernel, Cert.DftBIdeal.Layer.frame_ideal, Cert.DftBIdeal.Layer.frame_reference,
  Cert.FoldIdeal.Layer.frame_kernel, Cert.FoldIdeal.Layer.frame_ideal, Cert.FoldIdeal.Layer.frame_ideal_finite, Cert.FoldIdeal.Layer.frame_reference, Cert.FoldIdeal.Layer.frame_reference_finite,
  Cert.GlaBwdIdeal.Layer.frame_kernel, Cert.GlaBwdIdeal.Layer.frame_ideal,
  Cert.GlaFwdIdeal.Layer.frame_kernel, Cert.GlaFwdIdeal.Layer.frame_ideal,
  trivial, Cert.FfnInIdeal.Layer.algebraic,
  trivial, Cert.GluIdeal.Layer.algebraic,
  trivial, Cert.FinalIdeal.Layer.algebraic,
  trivial, Cert.MidIdeal.Layer.algebraic,
  trivial, Cert.MixOutIdeal.Layer.algebraic,
  trivial, Cert.CtxIdeal.Layer.algebraic,
  trivial, Cert.CtxBackIdeal.Layer.algebraic,
  trivial, Cert.AdaIdeal.Layer.algebraic,
  trivial, Cert.DftAIdeal.Layer.algebraic,
  trivial, Cert.DftBIdeal.Layer.algebraic,
  trivial, Cert.FoldIdeal.Layer.algebraic,
  trivial, trivial⟩

end Cert.Proof

end
